-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_on_inside_clip [hKernelIdeal : Cert.KernelIdeal.Facts] [hReferenceIdeal : Cert.ReferenceIdeal.Facts] [hOn_inside_clip : Cert.On_inside_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 8192]⟩ 1 16 c ((Cert.On_inside_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 512]⟩ : Shape).Idx → _) i = 1#1 → r.2.mem ((c.tc : Thread Cert.KernelIdeal.nD Cert.KernelIdeal.τ).loc Cert.KernelIdeal.main_v1_0) i = (Layout.block ⟨2, ![4096, 512]⟩ ⟨2, ![4096, 8192]⟩ 1 16 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_inside_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_inside_clip : Cert.On_inside_clip.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_ReferenceIdeal_on_inside_clip (hKernelIdeal := hKernelIdeal) (hReferenceIdeal := hReferenceIdeal) (hOn_inside_clip := hOn_inside_clip)
    ∧ algebraic_KernelIdeal_UnclippedIdeal (hKernelIdeal := hKernelIdeal) (hUnclippedIdeal := hUnclippedIdeal)
-- ==== On_inside_clip.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xC2700000#32
  let main_v1 : FVec F S4096x8192 .f32 := broadcastInDim S4096x8192 ![] bcast_S_S4096x8192 main_cst
  let main_v2 : IVec S4096x8192 1 := cmpf .oge main_v0 main_v1
  let main_cst_0 : FVec F S_ .f32 := constant S_ .f32 0x42700000#32
  let main_v3 : FVec F S4096x8192 .f32 := broadcastInDim S4096x8192 ![] bcast_S_S4096x8192 main_cst_0
  let main_v4 : IVec S4096x8192 1 := cmpf .ole main_v0 main_v3
  let main_v5 : IVec S4096x8192 1 := andi main_v2 main_v4
  main_v5
-- ==== Kernel.lean ====
abbrev S256x4096 : Shape := ⟨2, ![256, 4096]⟩
abbrev S4096x512 : Shape := ⟨2, ![4096, 512]⟩
abbrev S16x256x4096 : Shape := ⟨3, ![16, 256, 4096]⟩
abbrev S4x256x4096 : Shape := ⟨3, ![4, 256, 4096]⟩
abbrev S_ : Shape := ⟨0, ![]⟩
abbrev S8 : Shape := ⟨1, ![8]⟩
abbrev S4 : Shape := ⟨1, ![4]⟩
abbrev S1 : Shape := ⟨1, ![1]⟩
abbrev S1x256x4096 : Shape := ⟨3, ![1, 256, 4096]⟩
abbrev S256x512 : Shape := ⟨2, ![256, 512]⟩
abbrev S1x128x4096 : Shape := ⟨3, ![1, 128, 4096]⟩
abbrev S128x4096 : Shape := ⟨2, ![128, 4096]⟩
abbrev S128x512 : Shape := ⟨2, ![128, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S4096x512, .f32⟩
  | .hbm, ⟨3, _⟩ => ⟨S16x256x4096, .f32⟩
  | .local _ .vmem, ⟨0, _⟩ => ⟨S256x4096, .f32⟩
  | .local _ .vmem, ⟨1, _⟩ => ⟨S4096x512, .f32⟩
  | .local _ .vmem, ⟨2, _⟩ => ⟨S4096x512, .f32⟩
  | .local _ .vmem, ⟨3, _⟩ => ⟨S4x256x4096, .f32⟩
  | .local _ .vmem, ⟨4, _⟩ => ⟨S4096x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9 : BitVec 32 := 1#32
  let v15 : BitVec 32 := Scalar.muli v5 c1_i32_9
  let v16 : BitVec 32 := Scalar.addi c0_i32 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11 : BitVec 32 := 1#32
  let v17 : BitVec 32 := Scalar.muli v7 c1_i32_11
  let v18 : BitVec 32 := Scalar.addi c0_i32_12 v17
  v18.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_16 : BitVec 32 := 0#32
  let c0_i32_17 : BitVec 32 := 0#32
  ![v2.toNat, 0, 0]
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_14 : BitVec 32 := 1#32
  let v19 : BitVec 32 := Scalar.muli v7 c1_i32_14
  let v20 : BitVec 32 := Scalar.addi c0_i32_15 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_19 : BitVec 32 := 1#32
  let v25 : BitVec 32 := Scalar.muli v5 c1_i32_19
  let v26 : BitVec 32 := Scalar.addi c0_i32_20 v25
  v26.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v31 : BitVec 32 := Scalar.muli v2 c256_i32
  let v39 : Index := Scalar.indexCast v31
  let c0_27 : Index := 0#32
  ![v39.toNat, 0]
def k0_off3 (d0 : Dev nD) (c0_i32_29 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_28 : BitVec 32 := 1#32
  let v41 : BitVec 32 := Scalar.subi v2 c1_i32_28
  let v42 : BitVec 32 := Scalar.subi v41 c0_i32_29
  let c32_i32 : BitVec 32 := 32#32
  let v43 : BitVec 32 := Scalar.addi v42 c32_i32
  let c16_i32_30 : BitVec 32 := 16#32
  let v44 : BitVec 32 := Scalar.remsi v43 c16_i32_30
  let c0_i32_34 : BitVec 32 := 0#32
  let c0_i32_35 : BitVec 32 := 0#32
  ![v44.toNat, 0, 0]
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_43 : BitVec 32 := 1#32
  let v55 : BitVec 32 := Scalar.muli v7 c1_i32_43
  let v56 : BitVec 32 := Scalar.addi c0_i32_44 v55
  v56.toNat
def k0_off4 (d0 : Dev nD) (c0_i32_56 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_55 : BitVec 32 := 1#32
  let v69 : BitVec 32 := Scalar.addi v2 c1_i32_55
  let v70 : BitVec 32 := Scalar.addi v69 c0_i32_56
  let c16_i32_57 : BitVec 32 := 16#32
  let v71 : BitVec 32 := Scalar.remsi v70 c16_i32_57
  let c0_i32_61 : BitVec 32 := 0#32
  let c0_i32_62 : BitVec 32 := 0#32
  ![v71.toNat, 0, 0]
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_70 : BitVec 32 := 1#32
  let v82 : BitVec 32 := Scalar.muli v5 c1_i32_70
  let v83 : BitVec 32 := Scalar.addi c0_i32_71 v82
  v83.toNat
def k0_off5 (d0 : Dev nD) (c0_i32_29 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_28 : BitVec 32 := 1#32
  let v41 : BitVec 32 := Scalar.subi v2 c1_i32_28
  let v42 : BitVec 32 := Scalar.subi v41 c0_i32_29
  let c32_i32 : BitVec 32 := 32#32
  let v43 : BitVec 32 := Scalar.addi v42 c32_i32
  let c16_i32_30 : BitVec 32 := 16#32
  let v44 : BitVec 32 := Scalar.remsi v43 c16_i32_30
  let c256_i32_88 : BitVec 32 := 256#32
  let v102 : BitVec 32 := Scalar.muli v44 c256_i32_88
  let v110 : Index := Scalar.indexCast v102
  let c0_95 : Index := 0#32
  ![v110.toNat, 0]
def k0_off6 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_55 : BitVec 32 := 1#32
  let v69 : BitVec 32 := Scalar.addi v2 c1_i32_55
  let v70 : BitVec 32 := Scalar.addi v69 c0_i32_56
  let c16_i32_57 : BitVec 32 := 16#32
  let v71 : BitVec 32 := Scalar.remsi v70 c16_i32_57
  let c256_i32_102 : BitVec 32 := 256#32
  let v118 : BitVec 32 := Scalar.muli v71 c256_i32_102
  let v126 : Index := Scalar.indexCast v118
  let c0_108 : Index := 0#32
  ![v126.toNat, 0]
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_127 : BitVec 32 := 1#32
  let v144 : BitVec 32 := Scalar.muli v7 c1_i32_127
  let v145 : BitVec 32 := Scalar.addi c0_i32_128 v144
  v145.toNat
def k0_dev8 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_156 : BitVec 32 := 1#32
  let v173 : BitVec 32 := Scalar.muli v5 c1_i32_156
  let v174 : BitVec 32 := Scalar.addi c0_i32_157 v173
  v174.toNat
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_211 : BitVec 32 := 1#32
  let v235 : BitVec 32 := Scalar.muli v7 c1_i32_211
  let v236 : BitVec 32 := Scalar.addi c0_i32_212 v235
  v236.toNat
def k0_dev10 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_240 : BitVec 32 := 1#32
  let v264 : BitVec 32 := Scalar.muli v5 c1_i32_240
  let v265 : BitVec 32 := Scalar.addi c0_i32_241 v264
  v265.toNat
def k0_dev11 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_297 : BitVec 32 := 1#32
  let v326 : BitVec 32 := Scalar.muli v7 c1_i32_297
  let v327 : BitVec 32 := Scalar.addi c0_i32_298 v326
  v327.toNat
def k0_dev12 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_326 : BitVec 32 := 1#32
  let v355 : BitVec 32 := Scalar.muli v5 c1_i32_326
  let v356 : BitVec 32 := Scalar.addi c0_i32_327 v355
  v356.toNat
def k0_dev13 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_383 : BitVec 32 := 1#32
  let v417 : BitVec 32 := Scalar.muli v7 c1_i32_383
  let v418 : BitVec 32 := Scalar.addi c0_i32_384 v417
  v418.toNat
def k0_dev14 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_412 : BitVec 32 := 1#32
  let v446 : BitVec 32 := Scalar.muli v5 c1_i32_412
  let v447 : BitVec 32 := Scalar.addi c0_i32_413 v446
  v447.toNat
def k0_dev15 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_469 : BitVec 32 := 1#32
  let v508 : BitVec 32 := Scalar.muli v7 c1_i32_469
  let v509 : BitVec 32 := Scalar.addi c0_i32_470 v508
  v509.toNat
def k0_dev16 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_498 : BitVec 32 := 1#32
  let v537 : BitVec 32 := Scalar.muli v5 c1_i32_498
  let v538 : BitVec 32 := Scalar.addi c0_i32_499 v537
  v538.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_538 : BitVec 32 := 1#32
  let v583 : BitVec 32 := Scalar.subi v2 c1_i32_538
  let c6_i32_539 : BitVec 32 := 6#32
  let v584 : BitVec 32 := Scalar.subi v583 c6_i32_539
  let c32_i32_540 : BitVec 32 := 32#32
  let v585 : BitVec 32 := Scalar.addi v584 c32_i32_540
  let c16_i32_541 : BitVec 32 := 16#32
  let v586 : BitVec 32 := Scalar.remsi v585 c16_i32_541
  let c0_i32_557 : BitVec 32 := 0#32
  let c0_i32_558 : BitVec 32 := 0#32
  ![v586.toNat, 0, 0]
def k0_dev17 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_555 : BitVec 32 := 1#32
  let v599 : BitVec 32 := Scalar.muli v7 c1_i32_555
  let v600 : BitVec 32 := Scalar.addi c0_i32_556 v599
  v600.toNat
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_567 : BitVec 32 := 1#32
  let v613 : BitVec 32 := Scalar.addi v2 c1_i32_567
  let c6_i32_568 : BitVec 32 := 6#32
  let v614 : BitVec 32 := Scalar.addi v613 c6_i32_568
  let c16_i32_569 : BitVec 32 := 16#32
  let v615 : BitVec 32 := Scalar.remsi v614 c16_i32_569
  let c128_i32 : BitVec 32 := 128#32
  let c0_i32_586 : BitVec 32 := 0#32
  ![v615.toNat, 128, 0]
def k0_dev18 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_584 : BitVec 32 := 1#32
  let v628 : BitVec 32 := Scalar.muli v5 c1_i32_584
  let v629 : BitVec 32 := Scalar.addi c0_i32_585 v628
  v629.toNat
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v674 : BitVec 32 := Scalar.addi v2 c8_i32
  let c16_i32_623 : BitVec 32 := 16#32
  let v675 : BitVec 32 := Scalar.remsi v674 c16_i32_623
  let c0_i32_627 : BitVec 32 := 0#32
  let c0_i32_628 : BitVec 32 := 0#32
  ![v675.toNat, 0, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v674 : BitVec 32 := Scalar.addi v2 c8_i32
  let c16_i32_623 : BitVec 32 := 16#32
  let v675 : BitVec 32 := Scalar.remsi v674 c16_i32_623
  let c256_i32_643 : BitVec 32 := 256#32
  let v696 : BitVec 32 := Scalar.muli v675 c256_i32_643
  let v704 : Index := Scalar.indexCast v696
  let c0_650 : Index := 0#32
  ![v704.toNat, 0]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v674 : BitVec 32 := Scalar.addi v2 c8_i32
  let c16_i32_623 : BitVec 32 := 16#32
  let v675 : BitVec 32 := Scalar.remsi v674 c16_i32_623
  let c128_i32_654 : BitVec 32 := 128#32
  let c0_i32_655 : BitVec 32 := 0#32
  ![v675.toNat, 128, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v674 : BitVec 32 := Scalar.addi v2 c8_i32
  let c16_i32_623 : BitVec 32 := 16#32
  let v675 : BitVec 32 := Scalar.remsi v674 c16_i32_623
  let c256_i32_670 : BitVec 32 := 256#32
  let v726 : BitVec 32 := Scalar.muli v675 c256_i32_670
  let c128_i32_671 : BitVec 32 := 128#32
  let v727 : BitVec 32 := Scalar.addi v726 c128_i32_671
  let v735 : Index := Scalar.indexCast v727
  let c0_678 : Index := 0#32
  ![v735.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
/-
The ring all-gather product — the protocol of the kernel's semaphores.

Sixteen devices form a ring. Every device sends its block of `x` to both neighbours; each block received in
hop `h` is passed on in hop `h + 1`, in the direction it came. The block eight devices away is passed on in two
halves, one from each side. So in a direction `d` (`true` to the right, `false` to the left) a device makes eight
transfers, hops 0 to 7, the last of half a block, and receives eight.

The semaphores of device `c`, all under the rounds library:
* the barrier: one round of two units. Each neighbour signals one unit and hands over the slots of its own
  communication buffer that `c` will write;
* `send d`: eight rounds, one per transfer; what comes back is the lent share of the staged block in round 0,
  nothing afterwards (the shares of the communication buffer are not needed again);
* `recv d h`: one round; the upstream neighbour's transfer hands over the slot, which holds the named block;
* `loc j`: one round per copy from the communication buffer to slot `j` of the local buffer; the copy hands
  over that slot, which holds the named block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.ViewIndex

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the ring's rounds -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device one to the right, one to the left. -/
def nxt (c : Dev nD) : Dev nD := ⟨(c.val + 1) % 16, Nat.mod_lt _ (by decide)⟩
def prv (c : Dev nD) : Dev nD := ⟨(c.val + 15) % 16, Nat.mod_lt _ (by decide)⟩

/-- The neighbour a transfer in direction `d` goes to, -/
def dn (d : Bool) (c : Dev nD) : Dev nD := if d then nxt c else prv c
/-- and the one it comes from. -/
def up (d : Bool) (c : Dev nD) : Dev nD := if d then prv c else nxt c

theorem up_dn (d : Bool) (c : Dev nD) : up d (dn d c) = c := by revert d c; decide
theorem dn_up (d : Bool) (c : Dev nD) : dn d (up d c) = c := by revert d c; decide

/-- Whose block device `c` receives in hop `h` of direction `d`. -/
def org (d : Bool) (h : ℕ) (c : Dev nD) : Dev nD :=
  if d then ⟨((c.val + 31) - h) % 16, Nat.mod_lt _ (by decide)⟩ else ⟨(c.val + h + 1) % 16, Nat.mod_lt _ (by decide)⟩

/-- What the neighbour receives in hop 0 is this device's own block, -/
theorem org_dn_zero (d : Bool) (c : Dev nD) : org d 0 (dn d c) = c := by revert d c; decide
/-- in hop `h + 1` what this device received in hop `h`. -/
theorem org_dn_succ (d : Bool) (h : Fin 7) (c : Dev nD) : org d (h.val + 1) (dn d c) = org d h.val c := by revert d h c; decide
theorem org_seven (d : Bool) (c : Dev nD) : org d 7 c = org true 7 c := by revert d c; decide

/-! ## The memrefs -/

abbrev xM : Memref sig .tc .vmem S256x4096 .f32 := Memref.whole cc0_stg0_0
abbrev wM : Memref sig .tc .vmem S4096x512 .f32 := Memref.whole cc0_stg1_0
abbrev oM : Memref sig .tc .vmem S4096x512 .f32 := Memref.whole cc0_stg2_0
abbrev commM : Memref sig .tc .hbm S16x256x4096 .f32 := Memref.whole main_v1_1
abbrev bufM : Memref sig .tc .vmem S4x256x4096 .f32 := Memref.whole cc0_scratch0
abbrev wbM : Memref sig .tc .vmem S4096x512 .bf16 := Memref.whole cc0_scratch1

/-- A block-sized window of the communication buffer at an offset, -/
abbrev slotOf (off : Fin 3 → ℕ) (inb : ∀ a, off a + S1x256x4096.size a ≤ S16x256x4096.size a) : Memref sig .tc .hbm S256x4096 .f32 :=
  (commM.slice (Rect.unit (s := S16x256x4096) off S1x256x4096.size inb) (fun _ => rfl)).squeeze S256x4096 squeezes_S1x256x4096_S256x4096
/-- and one of half a block. -/
abbrev halfOf (off : Fin 3 → ℕ) (inb : ∀ a, off a + S1x128x4096.size a ≤ S16x256x4096.size a) : Memref sig .tc .hbm S128x4096 .f32 :=
  (commM.slice (Rect.unit (s := S16x256x4096) off S1x128x4096.size inb) (fun _ => rfl)).squeeze S128x4096 squeezes_S1x128x4096_S128x4096

/-- The first row of the half that travels in direction `d`. -/
abbrev hrow (d : Bool) : ℕ := if d then 0 else 128

theorem slot_inb (o : Dev nD) : ∀ a, (![o.val, 0, 0] : Fin 3 → ℕ) a + S1x256x4096.size a ≤ S16x256x4096.size a := by revert o; decide
theorem half_inb (d : Bool) (o : Dev nD) : ∀ a, (![o.val, hrow d, 0] : Fin 3 → ℕ) a + S1x128x4096.size a ≤ S16x256x4096.size a := by
  revert d o; decide

/-- The slot of the communication buffer that holds device `o`'s block, -/
abbrev slotM (o : Dev nD) : Memref sig .tc .hbm S256x4096 .f32 := slotOf ![o.val, 0, 0] (slot_inb o)
/-- and the half of it that travels in direction `d` in the last hop. -/
abbrev halfM (d : Bool) (o : Dev nD) : Memref sig .tc .hbm S128x4096 .f32 := halfOf ![o.val, hrow d, 0] (half_inb d o)

theorem slotOf_eq {off : Fin 3 → ℕ} {inb} (o : Dev nD) (h : off = ![o.val, 0, 0]) : slotOf off inb = slotM o := by subst h; rfl
theorem halfOf_eq {off : Fin 3 → ℕ} {inb} (d : Bool) (o : Dev nD) (h : off = ![o.val, hrow d, 0]) : halfOf off inb = halfM d o := by subst h; rfl

theorem buf_inb (j : Fin 4) : ∀ a, (![j.val, 0, 0] : Fin 3 → ℕ) a + S1x256x4096.size a ≤ S4x256x4096.size a := by revert j; decide
theorem bufh_inb (j : Fin 4) : ∀ a, (![j.val, 0, 0] : Fin 3 → ℕ) a + S1x128x4096.size a ≤ S4x256x4096.size a := by revert j; decide

/-- Slot `j` of the local buffer, and its first half. -/
abbrev bufSlot (j : Fin 4) : Memref sig .tc .vmem S256x4096 .f32 :=
  (bufM.slice (Rect.unit (s := S4x256x4096) ![j.val, 0, 0] S1x256x4096.size (buf_inb j)) (fun _ => rfl)).squeeze S256x4096 squeezes_S1x256x4096_S256x4096
abbrev bufHalf (j : Fin 4) : Memref sig .tc .vmem S128x4096 .f32 :=
  (bufM.slice (Rect.unit (s := S4x256x4096) ![j.val, 0, 0] S1x128x4096.size (bufh_inb j)) (fun _ => rfl)).squeeze S128x4096 squeezes_S1x128x4096_S128x4096

/-! ## The cells -/

/-- The runtime's barrier semaphore. -/
abbrev barS : Sem sig := (SemArray.scalar (sig.barrier 0 rfl) : Sems sig S_).sem

/-- The kernel's own semaphores: `send d`, `recv d h`, `loc j`; -/
abbrev OwnKind : Type := Bool ⊕ ((Bool × Fin 8) ⊕ Fin 4)
/-- with the barrier, all of the ring's. -/
abbrev CellKind : Type := Unit ⊕ OwnKind

@[match_pattern] abbrev kBar : CellKind := .inl ()
@[match_pattern] abbrev kSend (d : Bool) : CellKind := .inr (.inl d)
@[match_pattern] abbrev kRecv (d : Bool) (h : Fin 8) : CellKind := .inr (.inr (.inl (d, h)))
@[match_pattern] abbrev kLoc (j : Fin 4) : CellKind := .inr (.inr (.inr j))

/-- The semaphore a kind names: own DMA semaphores 3 and 4 send, 5 to 12 and 13 to 20 receive, 21 to 24 are local. -/
def semAt : CellKind → SemLoc sig
  | kBar => .reg barS
  | kSend d => .dma (if d then ⟨3, by decide⟩ else ⟨4, by decide⟩)
  | kRecv d h => .dma (if d then ⟨5 + h.val, by have := h.isLt; show 5 + h.val < 25; omega⟩ else ⟨13 + h.val, by have := h.isLt; show 13 + h.val < 25; omega⟩)
  | kLoc j => .dma ⟨21 + j.val, by have := j.isLt; show 21 + j.val < 25; omega⟩

/-- The kind of a semaphore; the staging semaphores have none. -/
def kindOf : SemLoc sig → Option CellKind
  | .reg _ => some kBar
  | .dma q =>
    if q.val = 3 then some (kSend true) else if q.val = 4 then some (kSend false)
    else if h : 5 ≤ q.val ∧ q.val < 13 then some (kRecv true ⟨q.val - 5, by omega⟩)
    else if h : 13 ≤ q.val ∧ q.val < 21 then some (kRecv false ⟨q.val - 13, by omega⟩)
    else if h : 21 ≤ q.val ∧ q.val < 25 then some (kLoc ⟨q.val - 21, by omega⟩) else none

theorem kindOf_semAt (k : CellKind) : kindOf (semAt k) = some k := by revert k; decide

abbrev cell (k : CellKind) (c : Dev nD) : GSem nD τ sig := ((c : Thread nD τ), semAt k)

/-! ## Amounts -/

/-- What a transfer of a block credits, and one of half a block. -/
abbrev nFull : ℕ := (slotM (0 : Fin 16)).view.dmaCredit
abbrev nHalf : ℕ := (halfM true (0 : Fin 16)).view.dmaCredit
theorem nFull_pos : 0 < nFull := View.dmaCredit_pos _ (by decide)
theorem nHalf_pos : 0 < nHalf := View.dmaCredit_pos _ (by decide)

/-- What the transfer of hop `h` credits: the last is of half a block. -/
def amt (h : ℕ) : ℕ := if h < 7 then nFull else nHalf
theorem amt_pos (h : ℕ) : 0 < amt h := by unfold amt; split; exacts [nFull_pos, nHalf_pos]

/-- The copies of half a block: the last one into slot 0, and into slot 1. -/
abbrev lastLoc (j : Fin 4) (r : ℕ) : Prop := (j = 0 ∧ r = 4) ∨ (j = 1 ∧ r = 3)

def rounds : CellKind → ℕ
  | kBar => 1
  | kSend _ => 8
  | kRecv _ _ => 1
  | kLoc j => if j = 0 then 5 else if j = 3 then 3 else 4

def units : CellKind → ℕ → ℕ
  | kBar, _ => 1
  | kSend _, r => amt r
  | kRecv _ h, _ => amt h.val
  | kLoc j, r => if lastLoc j r then nHalf else nFull

theorem units_pos (k : CellKind) (r : ℕ) : 0 < units k r := by
  rcases k with _ | _ | ⟨_, _⟩ | j
  · exact Nat.one_pos
  · exact amt_pos _
  · exact amt_pos _
  · show 0 < if lastLoc j r then nHalf else nFull
    split; exacts [nHalf_pos, nFull_pos]

/-! ## What is handed over

`X` gives every device's block of `x`. -/

variable (X : Dev nD → Vec F S256x4096 .f32)

/-- The half of device `o`'s block that travels in direction `d` in the last hop. -/
def xHalf (d : Bool) (o : Dev nD) : Vec F S128x4096 .f32 :=
  fun i => X o (ValueIdx.ix2 (n0 := 256) (n1 := 4096) ⟨(i 0).val + hrow d, by have : (i 0).val < 128 := (i 0).isLt; unfold hrow; split <;> omega⟩ (i 1))

/-- Slot `o` of device `c`'s communication buffer, holding device `o`'s block; -/
def slotRes (o c : Dev nD) (q : PosShare TreeShare) : sProp 𝕄 :=
  iprop(∃ f, ⌜(slotM o).view.read (Elt F) f = X o⌝ ∗ ((slotM o).view.loc (c : Thread nD τ) ↦[(slotM o).view.set]{q} f))
/-- the half of it that travels in direction `d`. -/
def halfRes (d : Bool) (o c : Dev nD) (q : PosShare TreeShare) : sProp 𝕄 :=
  iprop(∃ f, ⌜(halfM d o).view.read (Elt F) f = xHalf X d o⌝ ∗ ((halfM d o).view.loc (c : Thread nD τ) ↦[(halfM d o).view.set]{q} f))

/-- The elements of the communication buffer that the transfer of hop `h` in direction `d` to device `c` writes. -/
def slotSet (d : Bool) (h : Fin 8) (c : Dev nD) : Finset (Idx ((c : Thread nD τ).loc main_v1_1)) :=
  if h.val < 7 then (slotM (org d h.val c)).view.set else (halfM d (org d h.val c)).view.set

/-- What device `c` writes in hop `h`, on the neighbour it sends to. -/
def dstRes (d : Bool) (h : Fin 8) (c : Dev nD) : sProp 𝕄 :=
  iprop(∃ f, ((dn d c : Thread nD τ).loc main_v1_1) ↦[slotSet d h (dn d c)]{fullShare} f)

/-- Slot `j` of the local buffer holding `V`, and its first half holding `V`. -/
def bufRes (j : Fin 4) (c : Dev nD) (V : Vec F S256x4096 .f32) : sProp 𝕄 :=
  iprop(∃ f, ⌜(bufSlot j).view.read (Elt F) f = V⌝ ∗ ((bufSlot j).view.loc (c : Thread nD τ) ↦[(bufSlot j).view.set]{fullShare} f))
def bufHalfRes (j : Fin 4) (c : Dev nD) (V : Vec F S128x4096 .f32) : sProp 𝕄 :=
  iprop(∃ f, ⌜(bufHalf j).view.read (Elt F) f = V⌝ ∗ ((bufHalf j).view.loc (c : Thread nD τ) ↦[(bufHalf j).view.set]{fullShare} f))

/-- The share of the staged block that the first transfer in direction `d` borrows; a third is kept for the loads. -/
def xShare (d : Bool) : PosShare TreeShare := if d then fullShare.left else fullShare.right.left
def xRes (c : Dev nD) (q : PosShare TreeShare) : sProp 𝕄 :=
  (xM.view.loc (c : Thread nD τ)) ↦[xM.view.set]{q} (X c)

def barPay (d : Bool) (c : Dev nD) : sProp 𝕄 := bigSep Finset.univ fun h : Fin 8 => dstRes (F := F) d h c
def sendPay (d : Bool) (r : ℕ) (c : Dev nD) : sProp 𝕄 := if r = 0 then xRes X c (xShare d) else iprop(emp)
def recvPay (d : Bool) (h : Fin 8) (c : Dev nD) : sProp 𝕄 :=
  if h.val < 7 then slotRes X (org d h.val c) c fullShare else halfRes X d (org d h.val c) c fullShare
/-- Slots 0 and 1 take the blocks from the left, in even and odd hops, slots 2 and 3 those from the right. -/
def locPay (j : Fin 4) (r : ℕ) (c : Dev nD) : sProp 𝕄 :=
  if lastLoc j r then bufHalfRes j c (xHalf X (decide (j = 0)) (org true 7 c))
  else bufRes j c (X (org (decide (j.val < 2)) (2 * r + j.val % 2) c))

def payAt (c : Dev nD) : CellKind → ℕ → Bool → sProp 𝕄
  | kBar, _, d => barPay (F := F) d c
  | kSend d, r, _ => sendPay X d r c
  | kRecv d h, _, _ => recvPay X d h c
  | kLoc j, r, _ => locPay X j r c

omit [FloatOps F] in
instance payAt_storable (c : Dev nD) (k : CellKind) (r : ℕ) (d : Bool) : BI.Storable (upEmb : UEmb _ 𝕄) (payAt (F := F) X c k r d) := by
  rcases k with _ | d' | ⟨d', h⟩ | j
  · show BI.Storable upEmb (barPay (F := F) d c); unfold barPay dstRes; infer_instance
  · show BI.Storable upEmb (sendPay X d' r c); unfold sendPay xRes; split <;> infer_instance
  · show BI.Storable upEmb (recvPay X d' h c); unfold recvPay slotRes halfRes; split <;> infer_instance
  · show BI.Storable upEmb (locPay X j r c); unfold locPay bufRes bufHalfRes; split <;> infer_instance

/-! ## The schedule -/

def dutiesAt : CellKind → ℕ → Finset Bool
  | kBar, r => if r = 0 then Finset.univ else ∅
  | k, r => if r < rounds k then {false} else ∅

def ringRd : Rounds.Schedule (GSem nD τ sig) Bool 𝕄 where
  duties g r := if g.1.2 = .tc then (match kindOf g.2 with | some k => dutiesAt k r | none => ∅) else ∅
  unitless _ := False
  amount g r _ := match kindOf g.2 with | some k => units k r | none => 1
  payload g r d := match kindOf g.2 with | some k => payAt X g.1.1 k r d | none => iprop(emp)
  amount_pos g r d _ := by
    rcases kindOf g.2 with _ | k
    · exact Nat.one_pos
    · exact units_pos k r

omit [FloatOps F] in
instance ringRd_payload_storable (g : GSem nD τ sig) (r : ℕ) (d : Bool) :
    BI.Storable (upEmb : UEmb _ 𝕄) ((ringRd (F := F) X).payload g r d) := by
  show BI.Storable upEmb (match kindOf g.2 with | some k => payAt X g.1.1 k r d | none => iprop(emp))
  rcases kindOf g.2 with _ | k
  · show BI.Storable upEmb (iprop(emp) : sProp 𝕄); infer_instance
  · show BI.Storable upEmb (payAt X g.1.1 k r d); infer_instance

section Sched
variable (k : CellKind) (c : Dev nD) (r : ℕ)

omit [FloatOps F] in
theorem duties_cell : (ringRd (F := F) X).duties (cell k c) r = dutiesAt k r := by
  dsimp only [ringRd]; rw [if_pos rfl, kindOf_semAt]
omit [FloatOps F] in
theorem amount_cell (d : Bool) : (ringRd (F := F) X).amount (cell k c) r d = units k r := by
  dsimp only [ringRd]; rw [kindOf_semAt]
omit [FloatOps F] in
theorem payload_cell (d : Bool) : (ringRd (F := F) X).payload (cell k c) r d = payAt X c k r d := by
  dsimp only [ringRd]; rw [kindOf_semAt]

theorem dutiesAt_own (k : OwnKind) (h : r < rounds (.inr k)) : dutiesAt (.inr k) r = {false} := by
  rcases k with _ | ⟨_, _⟩ | j <;> exact if_pos h
theorem dutiesAt_later (h : rounds k ≤ r) : dutiesAt k r = ∅ := by
  rcases k with _ | _ | ⟨_, _⟩ | j
  · exact if_neg (by change 1 ≤ r at h; omega)
  all_goals exact if_neg (by omega)

omit [FloatOps F] in
theorem duties_later : ∀ r, rounds k ≤ r → (ringRd (F := F) X).duties (cell k c) r = ∅ :=
  fun r h => by rw [duties_cell, dutiesAt_later k r h]

omit [FloatOps F] in
theorem mem_duties_own {k : OwnKind} (h : r < rounds (.inr k)) : false ∈ (ringRd (F := F) X).duties (cell (.inr k) c) r := by
  rw [duties_cell, dutiesAt_own r k h]; exact Finset.mem_singleton_self _
omit [FloatOps F] in
theorem mem_duties_bar (d : Bool) : d ∈ (ringRd (F := F) X).duties (cell kBar c) 0 := by
  rw [duties_cell]; exact Finset.mem_univ d

omit [FloatOps F] in
theorem expect_own {k : OwnKind} (h : r < rounds (.inr k)) : (ringRd (F := F) X).expect (cell (.inr k) c) r = units (.inr k) r := by
  unfold Schedule.expect Schedule.amountOf; rw [duties_cell, dutiesAt_own r k h, Finset.sum_singleton, amount_cell]
omit [FloatOps F] in
theorem expect_bar : (ringRd (F := F) X).expect (cell kBar c) 0 = 2 := by
  unfold Schedule.expect Schedule.amountOf
  rw [duties_cell, Finset.sum_congr rfl fun d _ => amount_cell X kBar c 0 d]
  rfl

omit [FloatOps F] in
theorem rest_own {k : OwnKind} (h : r < rounds (.inr k)) :
    bigSep ((ringRd (F := F) X).duties (cell (.inr k) c) r \ ∅) (fun d => (ringRd (F := F) X).payload (cell (.inr k) c) r d)
      = payAt X c (.inr k) r false := by
  rw [Finset.sdiff_empty, duties_cell, dutiesAt_own r k h, bigSep_singleton, payload_cell]
omit [FloatOps F] in
theorem rest_bar :
    bigSep ((ringRd (F := F) X).duties (cell kBar c) 0 \ ∅) (fun d => (ringRd (F := F) X).payload (cell kBar c) 0 d)
      = iprop(barPay (F := F) true c ∗ barPay (F := F) false c) := by
  rw [Finset.sdiff_empty, duties_cell, show dutiesAt kBar 0 = (Finset.univ : Finset Bool) from rfl,
    bigSep_univ_eq_bigSepL [true, false] (by decide) (by decide), bigSepL_cons_cons, bigSepL_singleton, payload_cell, payload_cell]
  rfl

end Sched

/-! ## What each device owes; the levels -/

/-- What device `c` owes for the transfers of hops `s` to 7 in direction `d`: the credit of its neighbour's receive cells. -/
def owedDir (d : Bool) (c : Dev nD) (s : ℕ) : CellTallies nD τ sig Unit :=
  ∑ h : Fin 8, if s ≤ h.val then tallyAt (cell (kRecv d h) (dn d c)) () (amt h.val) else 0

/-- The transfers from hop `sr` to the right, `sl` to the left. -/
def owed (c : Dev nD) (sr sl : ℕ) : CellTallies nD τ sig Unit := owedDir true c sr + owedDir false c sl

/-- At launch all sixteen transfers and a unit to each neighbour's barrier, the first signalled last. -/
def owed₁ (c : Dev nD) : CellTallies nD τ sig Unit := owed c 0 0 + tallyAt (cell kBar (nxt c)) () 1
def owed₀ (c : Dev nD) : CellTallies nD τ sig Unit := owed₁ c + tallyAt (cell kBar (prv c)) () 1

theorem owedDir_step (d : Bool) (c : Dev nD) (h : Fin 8) :
    owedDir d c h.val = owedDir d c (h.val + 1) + tallyAt (cell (kRecv d h) (dn d c)) () (amt h.val) := by
  unfold owedDir
  rw [← Finset.sum_erase_add _ _ (Finset.mem_univ h), ← Finset.sum_erase_add (a := h) (f := fun h' : Fin 8 => if h.val + 1 ≤ h'.val then _ else _) _ (Finset.mem_univ h),
    if_pos le_rfl, if_neg (by omega), add_zero]
  refine congrArg (· + _) (Finset.sum_congr rfl fun h' hh' => ?_)
  have hne : h' ≠ h := Finset.ne_of_mem_erase hh'
  have : h'.val ≠ h.val := fun e => hne (Fin.ext e)
  by_cases hl : h.val ≤ h'.val
  · rw [if_pos hl, if_pos (by omega)]
  · rw [if_neg hl, if_neg (by omega)]

theorem owed_step_right (c : Dev nD) (h : Fin 8) (sl : ℕ) :
    owed c h.val sl = owed c (h.val + 1) sl + tallyAt (cell (kRecv true h) (dn true c)) () (amt h.val) := by
  unfold owed; rw [owedDir_step true c h]; ac_rfl
theorem owed_step_left (c : Dev nD) (sr : ℕ) (h : Fin 8) :
    owed c sr h.val = owed c sr (h.val + 1) + tallyAt (cell (kRecv false h) (dn false c)) () (amt h.val) := by
  unfold owed; rw [owedDir_step false c h]; ac_rfl

theorem owedDir_eight (d : Bool) (c : Dev nD) : owedDir d c 8 = 0 := by
  unfold owedDir; exact Finset.sum_eq_zero fun h _ => if_neg (by omega)
theorem owed_eight (c : Dev nD) : owed c 8 8 = 0 := by unfold owed; rw [owedDir_eight, owedDir_eight, add_zero]

def L (g : GSem nD τ sig) : Finset Unit := if g.1.2 = .tc then {()} else ∅
/-- The barrier at 1, the receive cell of hop `h` at `2 + h`, everything the device waits for on its own at 0. -/
def lv (g : GSem nD τ sig) (_ : Unit) : ℕ :=
  match kindOf g.2 with | some kBar => 1 | some (kRecv _ h) => 2 + h.val | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (k : CellKind) (c : Dev nD) : lv (cell k c) () = (match k with | kBar => 1 | kRecv _ h => 2 + h.val | _ => 0) := by
  unfold lv; rw [kindOf_semAt]; rcases k with _ | _ | ⟨_, _⟩ | j <;> rfl

theorem owedDir_pos {d : Bool} {c : Dev nD} {s : ℕ} {g : GSem nD τ sig} {u : Unit} (h : 0 < owedDir d c s g u) :
    ∃ j : Fin 8, s ≤ j.val ∧ g = cell (kRecv d j) (dn d c) := by
  unfold owedDir at h
  rw [Finset.sum_apply, Finsupp.finset_sum_apply] at h
  obtain ⟨j, -, hj⟩ := Finset.exists_ne_zero_of_sum_ne_zero h.ne'
  by_cases hs : s ≤ j.val
  · rw [if_pos hs, tallyAt_apply] at hj
    by_cases hg : g = cell (kRecv d j) (dn d c) ∧ u = ()
    · exact ⟨j, hs, hg.1⟩
    · rw [if_neg hg] at hj; exact absurd rfl hj
  · rw [if_neg hs] at hj; exact absurd rfl hj

theorem owed_pos {c : Dev nD} {sr sl : ℕ} {g : GSem nD τ sig} {u : Unit} (h : 0 < owed c sr sl g u) :
    ∃ (d : Bool) (j : Fin 8), (if d then sr else sl) ≤ j.val ∧ g = cell (kRecv d j) (dn d c) := by
  unfold owed at h
  rw [Pi.add_apply, Finsupp.add_apply] at h
  rcases Nat.eq_zero_or_pos (owedDir true c sr g u) with h0 | h0
  · obtain ⟨j, hj, hg⟩ := owedDir_pos (d := false) (c := c) (s := sl) (g := g) (u := u) (by omega)
    exact ⟨false, j, hj, hg⟩
  · obtain ⟨j, hj, hg⟩ := owedDir_pos h0
    exact ⟨true, j, hj, hg⟩

theorem owed₀_pos {c : Dev nD} {g : GSem nD τ sig} {u : Unit} (h : 0 < owed₀ c g u) :
    (∃ (d : Bool) (j : Fin 8), g = cell (kRecv d j) (dn d c)) ∨ g = cell kBar (nxt c) ∨ g = cell kBar (prv c) := by
  unfold owed₀ owed₁ at h
  rw [Pi.add_apply, Finsupp.add_apply, Pi.add_apply, Finsupp.add_apply, tallyAt_apply, tallyAt_apply] at h
  by_cases h1 : g = cell kBar (nxt c)
  · exact .inr (.inl h1)
  · by_cases h2 : g = cell kBar (prv c)
    · exact .inr (.inr h2)
    · rw [if_neg (fun h' => h1 h'.1), if_neg (fun h' => h2 h'.1)] at h
      obtain ⟨d, j, -, hg⟩ := owed_pos (c := c) (sr := 0) (sl := 0) (g := g) (u := u) (by omega)
      exact .inl ⟨d, j, hg⟩

/-- A device may wait for a cell that lies below every receive cell it still owes. -/
theorem mayWait_cell (c : Dev nD) (k : CellKind) (sr sl : ℕ) (hr : lv (cell k c) () < 2 + sr) (hl : lv (cell k c) () < 2 + sl) :
    (levAts L lv : sProp 𝕄) ⊢ MayWait (c : Thread nD τ) (semAt k) () (owed c sr sl) :=
  MayOwe.of_cut (L := L) (lev := lv) (lv (cell k c) ()) (fun p hp => by rw [Finset.mem_singleton.mp hp, L_tc]; exact Finset.mem_singleton_self _)
    (fun g u hg => by obtain ⟨d, j, -, rfl⟩ := owed_pos hg; rw [L_tc]; exact Finset.mem_singleton_self _)
    (fun p hp => by rw [Finset.mem_singleton.mp hp])
    (fun g u hg => by
      obtain ⟨d, j, hj, rfl⟩ := owed_pos hg
      cases u
      rw [lv_cell (kRecv d j)]
      show lv (cell k c) () < 2 + j.val
      cases d
      · simp only [Bool.false_eq_true, if_false] at hj; omega
      · simp only [if_true] at hj; omega)

end Cert.RingProof
-- ==== Proof.Steps.lean ====
/-
The ring all-gather product — what a device holds between two operations of the kernel's body, and one lemma per
kind of operation on a semaphore: a transfer to a neighbour, a local copy, and the three waits. Each is stated once,
at a direction `d` (or a slot `j`) and a round, and used at every hop.
-/
module

public import proofs.«01_k».proof.Proof.Common

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (K : Dev nD × CellKind → ℕ)
variable {α : Type} {Q : α → sProp (MT nD τ sig Unit (Elt F) ℕ UU ℕ)}

abbrev 𝒱₀ : Variants := Variants.none

/-- The body of device `c` runs `p` to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What is held -/

/-- Every cell's invariant, that its round 0 is reached, and the levels: held by every device throughout. -/
def records : sProp 𝕄 :=
  iprop(bigSep Finset.univ (fun p : Dev nD × CellKind => cellInv ER (ringRd X) (K p) (cell p.2 p.1))
    ∗ bigSep Finset.univ (fun p : Dev nD × CellKind => (reached ER (cell p.2 p.1) 0 : sProp 𝕄)) ∗ levAts L lv)

instance records_persistent : BI.Persistent (records X K) := by unfold records; infer_instance

theorem records_inv (k : CellKind) (c : Dev nD) : records X K ⊢ cellInv ER (ringRd X) (K (c, k)) (cell k c) := by
  unfold records
  iintro ⟨H, -, -⟩
  iapply (show bigSep Finset.univ (fun p : Dev nD × CellKind => cellInv ER (ringRd X) (K p) (cell p.2 p.1)) ⊢ cellInv ER (ringRd X) (K (c, k)) (cell k c)
    from BI.bigSep_elim (Φ := fun p : Dev nD × CellKind => cellInv ER (ringRd X) (K p) (cell p.2 p.1)) (Finset.mem_univ (c, k)))
  iexact H
theorem records_reached (k : CellKind) (c : Dev nD) : records X K ⊢ reached ER (cell k c) 0 := by
  unfold records
  iintro ⟨-, H, -⟩
  iapply (show bigSep Finset.univ (fun p : Dev nD × CellKind => (reached ER (cell p.2 p.1) 0 : sProp 𝕄)) ⊢ reached ER (cell k c) 0
    from BI.bigSep_elim (Φ := fun p : Dev nD × CellKind => (reached ER (cell p.2 p.1) 0 : sProp 𝕄)) (Finset.mem_univ (c, k)))
  iexact H
theorem records_lev : records X K ⊢ (levAts L lv : sProp 𝕄) := by
  unfold records; iintro ⟨-, -, H⟩; iexact H

/-- What the device still owes, whatever it has waited for. -/
def Owes (c : Dev nD) (O : CellTallies nD τ sig Unit) : sProp 𝕄 := iprop(∃ W, owes (c : Thread nD τ) O W)

/-- A family that is `A` from `n` on and `B` before. -/
def fromTo {m : ℕ} (A B : Fin m → sProp 𝕄) (n : ℕ) : sProp 𝕄 := bigSep Finset.univ fun h : Fin m => if n ≤ h.val then A h else B h

omit [FloatOps F] in
theorem fromTo_step {m : ℕ} (A B : Fin m → sProp 𝕄) (n : Fin m) :
    fromTo A B n.val ⊢ iprop(A n ∗ (B n -∗ fromTo A B (n.val + 1))) := by
  unfold fromTo
  refine (bigSep_univ_update (Φ := fun h : Fin m => if n.val ≤ h.val then A h else B h)
    (Ψ := fun h : Fin m => if n.val + 1 ≤ h.val then A h else B h) n fun j hj => ?_).trans ?_
  · have : j.val ≠ n.val := fun e => hj (Fin.ext e)
    by_cases h : n.val ≤ j.val
    · rw [if_pos h, if_pos (by omega)]
    · rw [if_neg h, if_neg (by omega)]
  · rw [if_pos le_rfl, if_neg (by omega)]

/-- For the transfers in direction `d` from hop `n` on: the tokens of both ends, and the elements they write. -/
def sendRes (d : Bool) (n : ℕ) (c : Dev nD) : sProp 𝕄 :=
  fromTo (m := 8) (fun h => iprop(dutyTok ER (cell (kSend d) c) h.val false ∗ dutyTok ER (cell (kRecv d h) (dn d c)) 0 false ∗ dstRes (F := F) d h c))
    (fun _ => iprop(emp)) n
/-- Hops below `n` sent and waited for; -/
def sendIdle (d : Bool) (n : ℕ) (c : Dev nD) : sProp 𝕄 :=
  iprop(atPos ER (cell (kSend d) c) n ∅ 0 ∗ reached ER (cell (kSend d) c) n ∗ sendRes (F := F) d n c)
/-- hop `n` on its way. -/
def sendBusy (d : Bool) (n : ℕ) (c : Dev nD) : sProp 𝕄 :=
  iprop(atPos ER (cell (kSend d) c) n ∅ 0 ∗ cred (tallyAt (cell (kSend d) c) () (amt n)) ∗ sendRes (F := F) d (n + 1) c)

/-- The receive cells of direction `d`: from hop `n` on to be waited for, before that closed. -/
def recvRes (d : Bool) (n : ℕ) (c : Dev nD) : sProp 𝕄 :=
  fromTo (m := 8) (fun h => iprop(atPos ER (cell (kRecv d h) c) 0 ∅ 0 ∗ cred (tallyAt (cell (kRecv d h) c) () (amt h.val))))
    (fun h => semVal (cell (kRecv d h) c) 0) n

/-- The tokens of the copies into slot `j` from round `r` on; -/
def locToks (j : Fin 4) (r : ℕ) (c : Dev nD) : sProp 𝕄 :=
  fromTo (m := 5) (fun i => dutyTok ER (cell (kLoc j) c) i.val false) (fun _ => iprop(emp)) r
/-- `r` copies made and waited for; -/
def locIdle (j : Fin 4) (r : ℕ) (c : Dev nD) : sProp 𝕄 :=
  iprop(atPos ER (cell (kLoc j) c) r ∅ 0 ∗ reached ER (cell (kLoc j) c) r ∗ locToks (F := F) j r c)
/-- copy `r` on its way. -/
def locBusy (j : Fin 4) (r : ℕ) (c : Dev nD) : sProp 𝕄 :=
  iprop(atPos ER (cell (kLoc j) c) r ∅ 0 ∗ cred (tallyAt (cell (kLoc j) c) () (units (kLoc j) r)) ∗ locToks (F := F) j (r + 1) c)

/-! ## The transfers -/

theorem slotSet_full (d : Bool) {h : Fin 8} (hh : h.val < 7) (c : Dev nD) : slotSet d h c = (slotM (org d h.val c)).view.set := if_pos hh
theorem slotSet_half (d : Bool) {h : Fin 8} (hh : ¬ h.val < 7) (c : Dev nD) : slotSet d h c = (halfM d (org d h.val c)).view.set := if_neg hh

/-- A transfer to the neighbour in direction `d`, hop `h`: one rule at both ends' cells. -/
theorem send_core (d : Bool) (h : Fin 8) (c n : Dev nD) (hn : n = dn d c) {sp sp' : Space} {s : Shape} {src : Memref sig .tc sp s .f32}
    {dst : Memref sig .tc sp' s .f32} {sS sem : SemLoc sig} (hsS : sS = semAt (kSend d)) (hsem : sem = semAt (kRecv d h))
    {hsc : dst.view.ref.isScScratch = false} {hx₁ : src.view.WordExact} {hx₂ : dst.view.WordExact}
    {hty : DmaTarget.Typed sp sem (.remote (Dev.tc n : Thread nD τ) dst sS hsc)} {k : PUnit → Prog (TpuEff nD τ sig (Elt F) Λ₀ .tc) α}
    (q : PosShare TreeShare) (fs : Buf (Elt F) (src.view.loc (c : Thread nD τ))) (fd : Buf (Elt F) (dst.view.loc (dn d c : Thread nD τ)))
    (hN : dst.view.amount sem = amt h.val)
    {O₀ : CellTallies nD τ sig Unit} (O : CellTallies nD τ sig Unit) (hO : O₀ = O + tallyAt (cell (kRecv d h) (dn d c)) () (amt h.val)) {W : Waits sig Unit}
    (hpay₁ : (src.view.loc (c : Thread nD τ) ↦[src.view.set]{q} fs) ⊢ sendPay X d h.val c)
    (hpay₂ : (dst.view.loc (dn d c : Thread nD τ) ↦[dst.view.set]{fullShare} (dst.view.write (Elt F) fd (src.view.read (Elt F) fs) Finset.univ))
      ⊢ recvPay X d h (dn d c)) :
    iprop(cellInv ER (ringRd X) (K (c, kSend d)) (cell (kSend d) c) ∗ cellInv ER (ringRd X) (K (dn d c, kRecv d h)) (cell (kRecv d h) (dn d c))
        ∗ (src.view.loc (c : Thread nD τ) ↦[src.view.set]{q} fs) ∗ (dst.view.loc (dn d c : Thread nD τ) ↦[dst.view.set]{fullShare} fd)
        ∗ owes (c : Thread nD τ) O₀ W
        ∗ dutyTok ER (cell (kSend d) c) h.val false ∗ reached ER (cell (kSend d) c) h.val
        ∗ dutyTok ER (cell (kRecv d h) (dn d c)) 0 false ∗ reached ER (cell (kRecv d h) (dn d c)) 0)
      ⊢ iprop(((cred (tallyAt (cell (kSend d) c) () (amt h.val)) ∗ owes (c : Thread nD τ) O W) -∗ Runs c (k ⟨⟩) Q)
          -∗ Runs c (.op (.enqueueDma src (.remote (Dev.tc n : Thread nD τ) dst sS hsc) sem hx₁ hx₂ hty) k) Q) := by
  subst hn; subst hsS; subst hsem
  exact Rounds.wp_send_pointsTo 𝒱₀ ER (ringRd X) (c : Thread nD τ) none (κ₁ := K (c, kSend d)) (κ₂ := K (dn d c, kRecv d h))
    (r₁ := h.val) (r₂ := 0) (d₁ := false) (d₂ := false) (fd := fd)
    (mem_duties_own X c h.val (k := .inl d) h.isLt) (mem_duties_own X (dn d c) 0 (k := .inr (.inl (d, h))) Nat.one_pos)
    () () (amt h.val) hN (amount_cell X (kSend d) c h.val false) (amount_cell X (kRecv d h) (dn d c) 0 false) O hO (W := W)
    ((by rw [payload_cell]; exact hpay₁))
    ((by rw [payload_cell]; exact hpay₂))

/-- A transfer of a whole block to the neighbour in direction `d`, hop `h`. -/
theorem send_full (d : Bool) (h : Fin 8) (hh : h.val < 7) (c n : Dev nD) (hn : n = dn d c) {sp : Space} {src : Memref sig .tc sp S256x4096 .f32}
    {dst : Memref sig .tc .hbm S256x4096 .f32} (hdst : dst = slotM (org d h.val (dn d c))) {sS sem : SemLoc sig} (hsS : sS = semAt (kSend d))
    (hsem : sem = semAt (kRecv d h)) (hN : dst.view.amount sem = amt h.val)
    {hsc : dst.view.ref.isScScratch = false} {hx₁ : src.view.WordExact} {hx₂ : dst.view.WordExact}
    {hty : DmaTarget.Typed sp sem (.remote (Dev.tc n : Thread nD τ) dst sS hsc)} {k : PUnit → Prog (TpuEff nD τ sig (Elt F) Λ₀ .tc) α}
    (q : PosShare TreeShare) (fs : Buf (Elt F) (src.view.loc (c : Thread nD τ))) (hfs : src.view.read (Elt F) fs = X (org d h.val (dn d c)))
    (hpay : (src.view.loc (c : Thread nD τ) ↦[src.view.set]{q} fs) ⊢ sendPay X d h.val c)
    {O₀ : CellTallies nD τ sig Unit} (O : CellTallies nD τ sig Unit) (hO : O₀ = O + tallyAt (cell (kRecv d h) (dn d c)) () (amt h.val)) :
    records X K ⊢ iprop(sendIdle d h.val c -∗ Owes c O₀ -∗ (src.view.loc (c : Thread nD τ) ↦[src.view.set]{q} fs)
      -∗ ((sendBusy d h.val c ∗ Owes c O) -∗ Runs c (k ⟨⟩) Q)
      -∗ Runs c (.op (.enqueueDma src (.remote (Dev.tc n : Thread nD τ) dst sS hsc) sem hx₁ hx₂ hty) k) Q) := by
  subst hdst
  unfold sendIdle Owes sendRes
  iintro #HR ⟨Hat, #Hr, Hres⟩ ⟨%W, HO⟩ Hsrc Hk
  ihave Hres' := (fromTo_step (F := F) _ _ h) $$ Hres
  icases Hres' with ⟨⟨Ht, Ht', Hdst⟩, Hback⟩
  unfold dstRes
  icases Hdst with ⟨%fd, Hdst⟩
  rw [slotSet_full d hh]
  iapply (send_core X K d h c n hn hsS hsem q fs fd hN O hO hpay
    (by
      unfold recvPay slotRes; rw [if_pos hh]
      iintro H
      iexists _
      isplitr
      · ipureintro; exact (View.read_write_univ (v := (slotM (org d h.val (dn d c))).view) fd (src.view.read (Elt F) fs)).trans hfs
      iexact H)) $$ [HO Hsrc Hdst Ht Ht']
  · isplitr; · iapply (records_inv X K (kSend d) c); iexact HR
    isplitr; · iapply (records_inv X K (kRecv d h) (dn d c)); iexact HR
    isplitl [Hsrc]; · iexact Hsrc
    isplitl [Hdst]; · iexact Hdst
    isplitl [HO]; · iexact HO
    isplitl [Ht]; · iexact Ht
    isplitr; · iexact Hr
    isplitl [Ht']; · iexact Ht'
    iapply (records_reached X K (kRecv d h) (dn d c)); iexact HR
  iintro ⟨Hc, HO⟩
  iapply Hk
  isplitr [HO]
  · unfold sendBusy sendRes
    isplitl [Hat]; · iexact Hat
    isplitl [Hc]; · iexact Hc
    iapply Hback; iempintro
  iexists W; iexact HO

/-- Device `c`'s own block, lent for hop 0. -/
theorem send_first (d : Bool) (c n : Dev nD) (hn : n = dn d c) {dst : Memref sig .tc .hbm S256x4096 .f32} (hdst : dst = slotM c)
    {sS sem : SemLoc sig} (hsS : sS = semAt (kSend d)) (hsem : sem = semAt (kRecv d 0)) (hN : dst.view.amount sem = amt 0)
    {hsc : dst.view.ref.isScScratch = false} {hx₁ : (xM).view.WordExact} {hx₂ : dst.view.WordExact}
    {hty : DmaTarget.Typed .vmem sem (.remote (Dev.tc n : Thread nD τ) dst sS hsc)} {k : PUnit → Prog (TpuEff nD τ sig (Elt F) Λ₀ .tc) α}
    {O₀ : CellTallies nD τ sig Unit} (O : CellTallies nD τ sig Unit) (hO : O₀ = O + tallyAt (cell (kRecv d 0) (dn d c)) () (amt 0)) :
    records X K ⊢ iprop(sendIdle d 0 c -∗ Owes c O₀ -∗ xRes X c (xShare d)
      -∗ ((sendBusy d 0 c ∗ Owes c O) -∗ Runs c (k ⟨⟩) Q)
      -∗ Runs c (.op (.enqueueDma xM (.remote (Dev.tc n : Thread nD τ) dst sS hsc) sem hx₁ hx₂ hty) k) Q) := by
  have e : org d 0 (dn d c) = c := org_dn_zero d c
  unfold xRes
  exact send_full X K d ⟨0, by decide⟩ (by decide) c n hn (src := xM) (hdst.trans (congrArg slotM e.symm)) hsS hsem hN (xShare d) (X c)
    (show X c = X (org d 0 (dn d c)) from (congrArg X e).symm)
    (by unfold sendPay xRes; rw [if_pos rfl]) O hO

/-- A received block passed on, `h + 1` not the last hop. -/
theorem send_next (d : Bool) (h : ℕ) (hh : h + 1 < 7) (c n : Dev nD) (hn : n = dn d c)
    {src dst : Memref sig .tc .hbm S256x4096 .f32} (hsrc : src = slotM (org d h c)) (hdst : dst = slotM (org d h c))
    {sS sem : SemLoc sig} (hsS : sS = semAt (kSend d)) (hsem : sem = semAt (kRecv d ⟨h + 1, by omega⟩)) (hN : dst.view.amount sem = amt (h + 1))
    {hsc : dst.view.ref.isScScratch = false} {hx₁ : src.view.WordExact} {hx₂ : dst.view.WordExact}
    {hty : DmaTarget.Typed .hbm sem (.remote (Dev.tc n : Thread nD τ) dst sS hsc)} {k : PUnit → Prog (TpuEff nD τ sig (Elt F) Λ₀ .tc) α}
    {q : PosShare TreeShare} {O₀ : CellTallies nD τ sig Unit} (O : CellTallies nD τ sig Unit)
    (hO : O₀ = O + tallyAt (cell (kRecv d ⟨h + 1, by omega⟩) (dn d c)) () (amt (h + 1))) :
    records X K ⊢ iprop(sendIdle d (h + 1) c -∗ Owes c O₀ -∗ slotRes X (org d h c) c q
      -∗ ((sendBusy d (h + 1) c ∗ Owes c O) -∗ Runs c (k ⟨⟩) Q)
      -∗ Runs c (.op (.enqueueDma src (.remote (Dev.tc n : Thread nD τ) dst sS hsc) sem hx₁ hx₂ hty) k) Q) := by
  have e : org d (h + 1) (dn d c) = org d h c := org_dn_succ d ⟨h, by omega⟩ c
  subst hsrc
  unfold slotRes
  iintro #HR Hs HO ⟨%f, %hf, Hx⟩ Hk
  iapply (send_full X K d ⟨h + 1, by omega⟩ hh c n hn (hdst.trans (congrArg slotM e.symm)) hsS hsem hN q f
    (hf.trans (congrArg X e.symm)) (by unfold sendPay; rw [if_neg (Nat.succ_ne_zero _)]; iintro -; iempintro) O hO) $$ HR Hs HO Hx
  iexact Hk

/-! ## Half a block -/

theorem mem_slot_set (o : Dev nD) (i : S16x256x4096.Idx) :
    i ∈ (slotM o).view.set ↔ (i 0).val = o.val := by
  rw [View.set_reshape, View.set_slice_whole, Rect.mem_set_unit]
  constructor
  · intro h
    have := h 0
    change o.val ≤ (i 0).val ∧ (i 0).val < o.val + 1 at this
    omega
  · intro h a
    have h1 : (i 1).val < 256 := (i 1).isLt
    have h2 : (i 2).val < 4096 := (i 2).isLt
    match a with
    | 0 => show o.val ≤ (i 0).val ∧ (i 0).val < o.val + 1; omega
    | 1 => show 0 ≤ (i 1).val ∧ (i 1).val < 0 + 256; omega
    | 2 => show 0 ≤ (i 2).val ∧ (i 2).val < 0 + 4096; omega
theorem mem_half_set (d : Bool) (o : Dev nD) (i : S16x256x4096.Idx) :
    i ∈ (halfM d o).view.set ↔ (i 0).val = o.val ∧ hrow d ≤ (i 1).val ∧ (i 1).val < hrow d + 128 := by
  rw [View.set_reshape, View.set_slice_whole, Rect.mem_set_unit]
  constructor
  · intro h
    have h0 := h 0
    have h1 := h 1
    change o.val ≤ (i 0).val ∧ (i 0).val < o.val + 1 at h0
    change hrow d ≤ (i 1).val ∧ (i 1).val < hrow d + 128 at h1
    omega
  · intro h a
    have h2 : (i 2).val < 4096 := (i 2).isLt
    match a with
    | 0 => show o.val ≤ (i 0).val ∧ (i 0).val < o.val + 1; omega
    | 1 => show hrow d ≤ (i 1).val ∧ (i 1).val < hrow d + 128; omega
    | 2 => show 0 ≤ (i 2).val ∧ (i 2).val < 0 + 4096; omega
theorem half_sub (d : Bool) (o : Dev nD) : (halfM d o).view.set ⊆ (slotM o).view.set :=
  fun i hi => (mem_slot_set o i).mpr ((mem_half_set d o i).mp hi).1

/-- A half reads the rows of its slot from `hrow d` on. -/
theorem half_read (d : Bool) (o : Dev nD) (f : S16x256x4096.Idx → Elt F .f32) (hf : (slotM o).view.read (Elt F) f = X o) :
    (halfM d o).view.read (Elt F) f = xHalf X d o := by
  have e : ∀ off inb hz, ((commM.slice (Rect.unit (s := S16x256x4096) off S1x256x4096.size inb) (fun _ => rfl)).squeeze S256x4096 squeezes_S1x256x4096_S256x4096).view.read (Elt F) f
    = shapeCast S256x4096 (commM.view.readAt (Elt F) (Rect.unit (s := S16x256x4096) off S1x256x4096.size inb).toLoadRect f) hz :=
    fun off inb hz => Memref.read_squeeze_slice commM _ (fun _ => rfl) squeezes_S1x256x4096_S256x4096 hz f
  rw [e _ _ shapeCasts_S1x256x4096_S256x4096] at hf
  rw [Memref.read_squeeze_slice commM _ (fun _ => rfl) squeezes_S1x128x4096_S128x4096 shapeCasts_S1x128x4096_S128x4096 f]
  funext i
  unfold xHalf
  rw [← hf, show i = ValueIdx.ix2 (n0 := 128) (n1 := 4096) (i 0) (i 1) from ValueIdx.eq_ix2 i]
  refine (ValueIdx.shapeCast_1ab_ab_apply _ shapeCasts_S1x128x4096_S128x4096 (i 0) (i 1)).trans
    (Eq.trans ?_ (ValueIdx.shapeCast_1ab_ab_apply _ shapeCasts_S1x256x4096_S256x4096 _ _).symm)
  refine congrArg f (Shape.idx3_ext ?_ ?_ ?_)
  · rfl
  · show hrow d + 1 * (i 0).val = 0 + 1 * ((i 0).val + hrow d); omega
  · rfl

theorem slot_half (d : Bool) (o c : Dev nD) (q : PosShare TreeShare) : slotRes X o c q ⊢ halfRes X d o c q := by
  unfold slotRes halfRes
  iintro ⟨%f, %hf, H⟩
  ihave H' := ((pointsTo_split_subset (half_sub d o)).1) $$ H
  icases H' with ⟨H, -⟩
  iexists f
  isplitr
  · ipureintro; exact half_read X d o f hf
  iexact H

/-- A transfer of half a block, in hop `h` (the last). -/
theorem send_half (d : Bool) (h : Fin 8) (hh : ¬ h.val < 7) (c n : Dev nD) (hn : n = dn d c)
    {src dst : Memref sig .tc .hbm S128x4096 .f32} (hsrc : src = halfM d (org d h.val (dn d c))) (hdst : dst = halfM d (org d h.val (dn d c)))
    {sS sem : SemLoc sig} (hsS : sS = semAt (kSend d)) (hsem : sem = semAt (kRecv d h)) (hN : dst.view.amount sem = amt h.val)
    {hsc : dst.view.ref.isScScratch = false} {hx₁ : src.view.WordExact} {hx₂ : dst.view.WordExact}
    {hty : DmaTarget.Typed .hbm sem (.remote (Dev.tc n : Thread nD τ) dst sS hsc)} {k : PUnit → Prog (TpuEff nD τ sig (Elt F) Λ₀ .tc) α}
    {q : PosShare TreeShare} {O₀ : CellTallies nD τ sig Unit} (O : CellTallies nD τ sig Unit)
    (hO : O₀ = O + tallyAt (cell (kRecv d h) (dn d c)) () (amt h.val)) :
    records X K ⊢ iprop(sendIdle d h.val c -∗ Owes c O₀ -∗ slotRes X (org d h.val (dn d c)) c q
      -∗ ((sendBusy d h.val c ∗ Owes c O) -∗ Runs c (k ⟨⟩) Q)
      -∗ Runs c (.op (.enqueueDma src (.remote (Dev.tc n : Thread nD τ) dst sS hsc) sem hx₁ hx₂ hty) k) Q) := by
  subst hsrc; subst hdst
  unfold sendIdle Owes sendRes
  iintro #HR ⟨Hat, #Hr, Hres⟩ ⟨%W, HO⟩ Hx Hk
  ihave Hx := (slot_half X d (org d h.val (dn d c)) c q) $$ Hx
  unfold halfRes
  icases Hx with ⟨%fs, %hfs, Hsrc⟩
  ihave Hres' := (fromTo_step (F := F) _ _ h) $$ Hres
  icases Hres' with ⟨⟨Ht, Ht', Hdst⟩, Hback⟩
  unfold dstRes
  icases Hdst with ⟨%fd, Hdst⟩
  rw [slotSet_half d hh]
  iapply (send_core X K d h c n hn hsS hsem q fs fd hN O hO (by unfold sendPay; rw [if_neg (by omega)]; iintro -; iempintro)
    (by
      unfold recvPay halfRes; rw [if_neg hh]
      iintro H
      iexists _
      isplitr
      · ipureintro
        exact (View.read_write_univ (v := (halfM d (org d h.val (dn d c))).view) fd ((halfM d (org d h.val (dn d c))).view.read (Elt F) fs)).trans hfs
      iexact H)) $$ [HO Hsrc Hdst Ht Ht']
  · isplitr; · iapply (records_inv X K (kSend d) c); iexact HR
    isplitr; · iapply (records_inv X K (kRecv d h) (dn d c)); iexact HR
    isplitl [Hsrc]; · iexact Hsrc
    isplitl [Hdst]; · iexact Hdst
    isplitl [HO]; · iexact HO
    isplitl [Ht]; · iexact Ht
    isplitr; · iexact Hr
    isplitl [Ht']; · iexact Ht'
    iapply (records_reached X K (kRecv d h) (dn d c)); iexact HR
  iintro ⟨Hc, HO⟩
  iapply Hk
  isplitr [HO]
  · unfold sendBusy sendRes
    isplitl [Hat]; · iexact Hat
    isplitl [Hc]; · iexact Hc
    iapply Hback; iempintro
  iexists W; iexact HO

/-- The last transfer, of half the block received in hop 6. -/
theorem send_last (d : Bool) (c n : Dev nD) (hn : n = dn d c)
    {src dst : Memref sig .tc .hbm S128x4096 .f32} (hsrc : src = halfM d (org d 6 c)) (hdst : dst = halfM d (org d 6 c))
    {sS sem : SemLoc sig} (hsS : sS = semAt (kSend d)) (hsem : sem = semAt (kRecv d 7)) (hN : dst.view.amount sem = amt 7)
    {hsc : dst.view.ref.isScScratch = false} {hx₁ : src.view.WordExact} {hx₂ : dst.view.WordExact}
    {hty : DmaTarget.Typed .hbm sem (.remote (Dev.tc n : Thread nD τ) dst sS hsc)} {k : PUnit → Prog (TpuEff nD τ sig (Elt F) Λ₀ .tc) α}
    {q : PosShare TreeShare} {O₀ : CellTallies nD τ sig Unit} (O : CellTallies nD τ sig Unit)
    (hO : O₀ = O + tallyAt (cell (kRecv d 7) (dn d c)) () (amt 7)) :
    records X K ⊢ iprop(sendIdle d 7 c -∗ Owes c O₀ -∗ slotRes X (org d 6 c) c q
      -∗ ((sendBusy d 7 c ∗ Owes c O) -∗ Runs c (k ⟨⟩) Q)
      -∗ Runs c (.op (.enqueueDma src (.remote (Dev.tc n : Thread nD τ) dst sS hsc) sem hx₁ hx₂ hty) k) Q) := by
  have e : org d 6 c = org d 7 (dn d c) := (org_dn_succ d 6 c).symm
  rw [e]
  exact send_half X K d 7 (by decide) c n hn (hsrc.trans (congrArg (halfM d) e)) (hdst.trans (congrArg (halfM d) e)) hsS hsem hN O hO

/-! ## The waits -/

/-- The wait for round `r` of an own cell. -/
theorem wait_own (k₀ : OwnKind) (r : ℕ) (hr : r < rounds (.inr k₀)) (N : ℕ) (hu : units (.inr k₀) r = N) (c : Dev nD) (sr sl : ℕ)
    (h₁ : lv (cell (.inr k₀) c) () < 2 + sr) (h₂ : lv (cell (.inr k₀) c) () < 2 + sl)
    {sem : DmaSem sig} (hs : SemLoc.dma sem = semAt (.inr k₀)) {sp sp' : Space} {s s' : Shape} {e e' : EltTy}
    {src : Memref sig .tc sp' s' e'} {dst : Memref sig .tc sp s e} {hx₁ : src.view.WordExact} {hx₂ : dst.view.WordExact}
    (hN : dst.view.dmaCredit = N) {k : PUnit → Prog (TpuEff nD τ sig (Elt F) Λ₀ .tc) α} :
    records X K ⊢ iprop(cred (tallyAt (cell (.inr k₀) c) () N) -∗ Owes c (owed c sr sl) -∗ atPos ER (cell (.inr k₀) c) r ∅ 0
      -∗ ((Owes c (owed c sr sl) ∗ atPos ER (cell (.inr k₀) c) (r + 1) ∅ 0 ∗ reached ER (cell (.inr k₀) c) (r + 1) ∗ payAt X c (.inr k₀) r false)
          -∗ Runs c (k ⟨⟩) Q)
      -∗ Runs c (.op (.waitDma2 sem src dst hx₁ hx₂) k) Q) := by
  have hI := records_inv X K (.inr k₀) c
  have hE := (expect_own X c r hr).trans hu
  have hP := rest_own X c r hr
  have hM : records X K ⊢ MayWait (c : Thread nD τ) (semAt (.inr k₀)) () (owed c sr sl) :=
    by
      have hL : records X K ⊢ (levAts L lv : sProp 𝕄) := by unfold records; iintro ⟨-, -, H⟩; iexact H
      refine hL.trans ?_
      exact mayWait_cell c (.inr k₀) sr sl h₁ h₂
  rw [← hN] at hE ⊢
  unfold cell at *
  rw [← hs] at *
  unfold Owes
  iintro #HR Hc ⟨%W, HO⟩ Hat Hk
  iapply (Rounds.wp_wait_rest_token 𝒱₀ ER (ringRd X) (c : Thread nD τ) none (κ := K (c, .inr k₀))
    (wpE_waitDma2_eq 𝒱₀ (c : Thread nD τ) none Set.univ) (Set.mem_univ _) () (O := owed c sr sl) (W := W) (R := r) (m := 0) (T := ∅)
    (by rw [hE, Nat.zero_add])) $$ [Hc HO Hat]
  · isplitr; · iapply hI; iexact HR
    isplitl [Hc]; · iexact Hc
    isplitl [HO]; · iexact HO
    isplitr; · iapply hM; iexact HR
    iexact Hat
  iintro ⟨HO, Hat, Hr, Hp⟩
  iapply Hk
  isplitl [HO]; · iexists _; iexact HO
  isplitl [Hat]; · iexact Hat
  isplitl [Hr]; · iexact Hr
  iapply (Entails.of_eq hP); iexact Hp

/-- The wait for transfer `h` to have left. -/
theorem send_wait (d : Bool) (h : ℕ) (hh : h < 8) (c : Dev nD) (sr sl : ℕ)
    {sem : DmaSem sig} (hs : SemLoc.dma sem = semAt (kSend d)) {sp sp' : Space} {s s' : Shape} {e e' : EltTy}
    {src : Memref sig .tc sp' s' e'} {dst : Memref sig .tc sp s e} {hx₁ : src.view.WordExact} {hx₂ : dst.view.WordExact}
    (hN : dst.view.dmaCredit = amt h) {k : PUnit → Prog (TpuEff nD τ sig (Elt F) Λ₀ .tc) α} :
    records X K ⊢ iprop(sendBusy d h c -∗ Owes c (owed c sr sl)
      -∗ ((sendIdle d (h + 1) c ∗ Owes c (owed c sr sl) ∗ sendPay X d h c) -∗ Runs c (k ⟨⟩) Q)
      -∗ Runs c (.op (.waitDma2 sem src dst hx₁ hx₂) k) Q) := by
  unfold sendBusy sendIdle
  iintro #HR ⟨Hat, Hc, Hres⟩ HO Hk
  iapply (wait_own X K (.inl d) h hh (amt h) rfl c sr sl (by rw [lv_cell]; show 0 < 2 + sr; omega) (by rw [lv_cell]; show 0 < 2 + sl; omega) hs hN) $$ HR Hc HO Hat
  iintro ⟨HO, Hat, Hr, Hp⟩
  iapply Hk
  isplitl [Hat Hr Hres]
  · isplitl [Hat]; · iexact Hat
    isplitl [Hr]; · iexact Hr
    iexact Hres
  isplitl [HO]; · iexact HO
  iapply (Entails.of_eq (show payAt X c (kSend d) h false = sendPay X d h c from rfl)); iexact Hp

/-- The wait for the block of hop `h`: it is there, and the cell is done. -/
theorem recv_wait (d : Bool) (h : Fin 8) (c : Dev nD) (sr sl : ℕ) (h₁ : h.val < sr) (h₂ : h.val < sl)
    {sem : DmaSem sig} (hs : SemLoc.dma sem = semAt (kRecv d h)) {sp sp' : Space} {s s' : Shape} {e e' : EltTy}
    {src : Memref sig .tc sp' s' e'} {dst : Memref sig .tc sp s e} {hx₁ : src.view.WordExact} {hx₂ : dst.view.WordExact}
    (hN : dst.view.dmaCredit = amt h.val) {k : PUnit → Prog (TpuEff nD τ sig (Elt F) Λ₀ .tc) α} :
    records X K ⊢ iprop(recvRes d h.val c -∗ Owes c (owed c sr sl)
      -∗ ((recvRes d (h.val + 1) c ∗ Owes c (owed c sr sl) ∗ recvPay X d h c) -∗ Runs c (k ⟨⟩) Q)
      -∗ Runs c (.op (.waitDma2 sem src dst hx₁ hx₂) k) Q) := by
  unfold recvRes
  iintro #HR Hres HO Hk
  ihave Hres' := (fromTo_step (F := F) _ _ h) $$ Hres
  icases Hres' with ⟨⟨Hat, Hc⟩, Hback⟩
  iapply (wait_own X K (.inr (.inl (d, h))) 0 Nat.one_pos (amt h.val) rfl c sr sl (by rw [lv_cell]; show 2 + h.val < 2 + sr; omega)
    (by rw [lv_cell]; show 2 + h.val < 2 + sl; omega) hs hN) $$ HR Hc HO Hat
  iintro ⟨HO, Hat, -, Hp⟩
  imod (Rounds.cell_close ER (ringRd X) (Set.mem_univ (K (c, kRecv d h))) (fun h => h) (R := 0 + 1) (duties_later X (kRecv d h) c)) $$ [Hat] with Hz
  · isplitr; · iapply (records_inv X K (kRecv d h) c); iexact HR
    iexact Hat
  iapply Hk
  isplitl [Hz Hback]
  · iapply Hback; iexact Hz
  isplitl [HO]; · iexact HO
  iapply (Entails.of_eq (show payAt X c (kRecv d h) 0 false = recvPay X d h c from rfl)); iexact Hp

theorem recv_full (d : Bool) (h : ℕ) (hh : h < 7) (c : Dev nD) (sr sl : ℕ) (h₁ : h < sr) (h₂ : h < sl)
    {sem : DmaSem sig} (hs : SemLoc.dma sem = semAt (kRecv d ⟨h, by omega⟩)) {sp sp' : Space} {s s' : Shape} {e e' : EltTy}
    {src : Memref sig .tc sp' s' e'} {dst : Memref sig .tc sp s e} {hx₁ : src.view.WordExact} {hx₂ : dst.view.WordExact}
    (hN : dst.view.dmaCredit = nFull) {k : PUnit → Prog (TpuEff nD τ sig (Elt F) Λ₀ .tc) α} :
    records X K ⊢ iprop(recvRes d h c -∗ Owes c (owed c sr sl)
      -∗ ((recvRes d (h + 1) c ∗ Owes c (owed c sr sl) ∗ slotRes X (org d h c) c fullShare) -∗ Runs c (k ⟨⟩) Q)
      -∗ Runs c (.op (.waitDma2 sem src dst hx₁ hx₂) k) Q) := by
  have hp : recvPay X d ⟨h, by omega⟩ c = slotRes X (org d h c) c fullShare := if_pos hh
  rw [← hp]
  exact recv_wait X K d ⟨h, by omega⟩ c sr sl h₁ h₂ hs (hN.trans (if_pos hh).symm)

theorem recv_last (d : Bool) (c : Dev nD) (sr sl : ℕ) (h₁ : 7 < sr) (h₂ : 7 < sl)
    {sem : DmaSem sig} (hs : SemLoc.dma sem = semAt (kRecv d 7)) {sp sp' : Space} {s s' : Shape} {e e' : EltTy}
    {src : Memref sig .tc sp' s' e'} {dst : Memref sig .tc sp s e} {hx₁ : src.view.WordExact} {hx₂ : dst.view.WordExact}
    (hN : dst.view.dmaCredit = nHalf) {k : PUnit → Prog (TpuEff nD τ sig (Elt F) Λ₀ .tc) α} :
    records X K ⊢ iprop(recvRes d 7 c -∗ Owes c (owed c sr sl)
      -∗ ((recvRes d 8 c ∗ Owes c (owed c sr sl) ∗ halfRes X d (org d 7 c) c fullShare) -∗ Runs c (k ⟨⟩) Q)
      -∗ Runs c (.op (.waitDma2 sem src dst hx₁ hx₂) k) Q) := by
  have hp : recvPay X d 7 c = halfRes X d (org d 7 c) c fullShare := if_neg (by decide)
  rw [← hp]
  exact recv_wait X K d 7 c sr sl h₁ h₂ hs (hN.trans (if_neg (by decide)).symm)

/-! ## The copies to the local buffer -/

/-- A slot of the local buffer, whatever it holds; the rows a half does not cover. -/
def bufAny (j : Fin 4) (c : Dev nD) : sProp 𝕄 :=
  iprop(∃ f : Buf (Elt F) ((bufSlot j).view.loc (c : Thread nD τ)), (bufSlot j).view.loc (c : Thread nD τ) ↦[(bufSlot j).view.set]{fullShare} f)
def bufRest (j : Fin 4) (c : Dev nD) : sProp 𝕄 :=
  iprop(∃ f : Buf (Elt F) ((bufSlot j).view.loc (c : Thread nD τ)), (bufSlot j).view.loc (c : Thread nD τ) ↦[(bufSlot j).view.set \ (bufHalf j).view.set]{fullShare} f)

theorem bufRes_any (j : Fin 4) (c : Dev nD) (V : Vec F S256x4096 .f32) : bufRes j c V ⊢ bufAny (F := F) j c := by
  unfold bufRes bufAny; iintro ⟨%f, -, H⟩; iexists f; iexact H

theorem bufHalf_sub (j : Fin 4) : (bufHalf j).view.set ⊆ (bufSlot j).view.set := by
  intro i hi
  rw [View.set_reshape, View.set_slice_whole, Rect.mem_set_unit] at hi ⊢
  intro a
  have h0 := hi 0
  have h1 : (i 1).val < 256 := (i 1).isLt
  have h2 : (i 2).val < 4096 := (i 2).isLt
  change j.val ≤ (i 0).val ∧ (i 0).val < j.val + 1 at h0
  match a with
  | 0 => show j.val ≤ (i 0).val ∧ (i 0).val < j.val + 1; omega
  | 1 => show 0 ≤ (i 1).val ∧ (i 1).val < 0 + 256; omega
  | 2 => show 0 ≤ (i 2).val ∧ (i 2).val < 0 + 4096; omega

/-- Copy `r` into slot `j`, of a whole block. -/
theorem copy_full (j : Fin 4) (r : ℕ) (hr5 : r < 5) (hr : r < rounds (kLoc j)) (hl : ¬ lastLoc j r) (c o : Dev nD)
    (ho : o = org (decide (j.val < 2)) (2 * r + j.val % 2) c) {src : Memref sig .tc .hbm S256x4096 .f32} (hsrc : src = slotM o)
    {sem : SemLoc sig} (hs : sem = semAt (kLoc j)) (hN : (bufSlot j).view.amount sem = units (kLoc j) r)
    {hx₁ : src.view.WordExact} {hx₂ : (bufSlot j).view.WordExact} {hty : DmaTarget.Typed .hbm sem (.here (bufSlot j) : DmaTarget nD τ sig .tc _ _ _)}
    {k : PUnit → Prog (TpuEff nD τ sig (Elt F) Λ₀ .tc) α} {q : PosShare TreeShare} :
    records X K ⊢ iprop(locIdle j r c -∗ slotRes X o c q -∗ bufAny j c
      -∗ (locBusy j r c -∗ Runs c (k ⟨⟩) Q)
      -∗ Runs c (.op (.enqueueDma src (.here (bufSlot j)) sem hx₁ hx₂ hty) k) Q) := by
  subst hsrc; subst hs
  unfold locIdle slotRes bufAny locToks
  iintro #HR ⟨Hat, Hr, Hres⟩ ⟨%fs, %hfs, Hsrc⟩ ⟨%fd, Hdst⟩ Hk
  ihave Hres' := (fromTo_step (F := F) (m := 5) _ _ ⟨r, hr5⟩) $$ Hres
  icases Hres' with ⟨Ht, Hback⟩
  iapply (Rounds.wp_copy_pointsTo 𝒱₀ ER (ringRd X) (c : Thread nD τ) none (κ := K (c, kLoc j)) (r := r) (d := false)
    (q := q) (fs := fs) (fd := fd) (mem_duties_own X c r (k := .inr (.inr j)) hr) () (units (kLoc j) r) hN (amount_cell X (kLoc j) c r false)
    (by
      rw [payload_cell]; show _ ⊢ locPay X j r c
      unfold locPay bufRes; rw [if_neg hl, ← ho]
      iintro ⟨H, -⟩
      iexists ((bufSlot j).view.write (Elt F) fd ((slotM o).view.read (Elt F) fs) Finset.univ)
      isplitr
      · ipureintro; exact (View.read_write_univ (v := (bufSlot j).view) fd ((slotM o).view.read (Elt F) fs)).trans hfs
      iexact H)) $$ [Hsrc Hdst Ht Hr]
  · isplitr; · iapply (records_inv X K (kLoc j) c); iexact HR
    isplitl [Hsrc]; · iexact Hsrc
    isplitl [Hdst]; · iexact Hdst
    isplitl [Ht]; · iexact Ht
    iexact Hr
  iintro Hc
  iapply Hk
  unfold locBusy locToks
  isplitl [Hat]; · iexact Hat
  isplitl [Hc]; · iexact Hc
  iapply Hback; iempintro

/-- The last copy into slot `j`, of half a block. -/
theorem copy_half (j : Fin 4) (r : ℕ) (hr5 : r < 5) (hr : r < rounds (kLoc j)) (hl : lastLoc j r) (c : Dev nD)
    {src : Memref sig .tc .hbm S128x4096 .f32} (hsrc : src = halfM (decide (j = 0)) (org true 7 c))
    {sem : SemLoc sig} (hs : sem = semAt (kLoc j)) (hN : (bufHalf j).view.amount sem = units (kLoc j) r)
    {hx₁ : src.view.WordExact} {hx₂ : (bufHalf j).view.WordExact} {hty : DmaTarget.Typed .hbm sem (.here (bufHalf j) : DmaTarget nD τ sig .tc _ _ _)}
    {k : PUnit → Prog (TpuEff nD τ sig (Elt F) Λ₀ .tc) α} {q : PosShare TreeShare} :
    records X K ⊢ iprop(locIdle j r c -∗ halfRes X (decide (j = 0)) (org true 7 c) c q -∗ bufAny j c
      -∗ ((locBusy j r c ∗ bufRest j c) -∗ Runs c (k ⟨⟩) Q)
      -∗ Runs c (.op (.enqueueDma src (.here (bufHalf j)) sem hx₁ hx₂ hty) k) Q) := by
  subst hsrc; subst hs
  unfold locIdle halfRes bufAny locToks
  iintro #HR ⟨Hat, Hr, Hres⟩ ⟨%fs, %hfs, Hsrc⟩ ⟨%fd, Hdst⟩ Hk
  ihave Hd := ((pointsTo_split_subset (bufHalf_sub j)).1) $$ Hdst
  icases Hd with ⟨Hdst, Hrest⟩
  ihave Hres' := (fromTo_step (F := F) (m := 5) _ _ ⟨r, hr5⟩) $$ Hres
  icases Hres' with ⟨Ht, Hback⟩
  iapply (Rounds.wp_copy_pointsTo 𝒱₀ ER (ringRd X) (c : Thread nD τ) none (κ := K (c, kLoc j)) (r := r) (d := false)
    (dst := bufHalf j) (q := q) (fs := fs) (fd := fd)
    (mem_duties_own X c r (k := .inr (.inr j)) hr) () (units (kLoc j) r) hN (amount_cell X (kLoc j) c r false)
    (by
      rw [payload_cell]; show _ ⊢ locPay X j r c
      unfold locPay bufHalfRes; rw [if_pos hl]
      iintro ⟨H, -⟩
      iexists ((bufHalf j).view.write (Elt F) fd ((halfM (decide (j = 0)) (org true 7 c)).view.read (Elt F) fs) Finset.univ)
      isplitr
      · ipureintro
        exact (View.read_write_univ (v := (bufHalf j).view) fd ((halfM (decide (j = 0)) (org true 7 c)).view.read (Elt F) fs)).trans hfs
      iexact H)) $$ [Hsrc Hdst Ht Hr]
  · isplitr; · iapply (records_inv X K (kLoc j) c); iexact HR
    isplitl [Hsrc]; · iexact Hsrc
    isplitl [Hdst]; · iexact Hdst
    isplitl [Ht]; · iexact Ht
    iexact Hr
  iintro Hc
  iapply Hk
  unfold locBusy locToks bufRest
  isplitr [Hrest]
  · isplitl [Hat]; · iexact Hat
    isplitl [Hc]; · iexact Hc
    iapply Hback; iempintro
  iexists fd; iexact Hrest

/-- The wait for copy `r` into slot `j`. -/
theorem copy_wait (j : Fin 4) (r : ℕ) (hr : r < rounds (kLoc j)) (c : Dev nD) (sr sl : ℕ)
    {sem : DmaSem sig} (hs : SemLoc.dma sem = semAt (kLoc j)) {sp sp' : Space} {s s' : Shape} {e e' : EltTy}
    {src : Memref sig .tc sp' s' e'} {dst : Memref sig .tc sp s e} {hx₁ : src.view.WordExact} {hx₂ : dst.view.WordExact}
    (hN : dst.view.dmaCredit = units (kLoc j) r) {k : PUnit → Prog (TpuEff nD τ sig (Elt F) Λ₀ .tc) α} :
    records X K ⊢ iprop(locBusy j r c -∗ Owes c (owed c sr sl)
      -∗ ((locIdle j (r + 1) c ∗ Owes c (owed c sr sl) ∗ locPay X j r c) -∗ Runs c (k ⟨⟩) Q)
      -∗ Runs c (.op (.waitDma2 sem src dst hx₁ hx₂) k) Q) := by
  unfold locBusy locIdle
  iintro #HR ⟨Hat, Hc, Hres⟩ HO Hk
  iapply (wait_own X K (.inr (.inr j)) r hr (units (kLoc j) r) rfl c sr sl (by rw [lv_cell]; show 0 < 2 + sr; omega) (by rw [lv_cell]; show 0 < 2 + sl; omega) hs hN) $$ HR Hc HO Hat
  iintro ⟨HO, Hat, Hr, Hp⟩
  iapply Hk
  isplitl [Hat Hr Hres]
  · isplitl [Hat]; · iexact Hat
    isplitl [Hr]; · iexact Hr
    iexact Hres
  isplitl [HO]; · iexact HO
  iapply (Entails.of_eq (show payAt X c (kLoc j) r false = locPay X j r c from rfl)); iexact Hp

end Cert.RingProof
-- ==== Proof.Product.lean ====
/-
The ring all-gather product — the arithmetic of the kernel's body: the product of one block with the staged weights
through the sigmoid gate, the rows of the result it is stored to, and the loads it is computed from.
-/
module

public import proofs.«01_k».proof.Proof.Steps
public import Idealize.ShloMosaic.Lib.WritesUnit

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (Wt : Dev nD → Vec F S4096x512 .f32)
variable {α : Type} {Q : α → sProp (MT nD τ sig Unit (Elt F) ℕ UU ℕ)}

/-! ## The values -/

/-- A block's rows of the result: `y · sigmoid y` for the product `y` of the block, rounded, with the weights; -/
def gemm (V : FVec F S256x4096 .f32) (w : FVec F S4096x512 .bf16) : FVec F S256x512 .f32 :=
  mulf (matmul dot_S256x4096_S4096x512_S256x512_1_0_0_1_n_n none (truncf .bf16 V bitsLt_bf16_f32) w (constant S256x512 .f32 0x00000000#32))
    (logistic (matmul dot_S256x4096_S4096x512_S256x512_1_0_0_1_n_n none (truncf .bf16 V bitsLt_bf16_f32) w (constant S256x512 .f32 0x00000000#32)))
/-- and half a block's. -/
def gemmHalf (V : FVec F S128x4096 .f32) (w : FVec F S4096x512 .bf16) : FVec F S128x512 .f32 :=
  mulf (matmul dot_S128x4096_S4096x512_S128x512_1_0_0_1_n_n none (truncf .bf16 V bitsLt_bf16_f32) w (constant S128x512 .f32 0x00000000#32))
    (logistic (matmul dot_S128x4096_S4096x512_S128x512_1_0_0_1_n_n none (truncf .bf16 V bitsLt_bf16_f32) w (constant S128x512 .f32 0x00000000#32)))

theorem pay2_eq (x : Vec F S256x4096 .f32) (w : Vec F S4096x512 .bf16) : k0_pay2 x w = gemm x w := by
  show gemm (shapeCast S256x4096 x shapeCasts_S256x4096_S256x4096) w = _
  rw [shapeCast_self]

/-- The weights of device `c`, rounded. -/
def wb (c : Dev nD) : FVec F S4096x512 .bf16 := k0_pay1 (Wt c)

/-- Whose rows the row block of an index holds. -/
def rowOwner (i : S4096x512.Idx) : Dev nD := ⟨(i 0).val / 256, by have : (i 0).val < 4096 := (i 0).isLt; show _ < 16; omega⟩

/-- What device `c` computes: the block eight devices away in two halves, every other block whole. -/
def outC (c : Dev nD) : Vec F S4096x512 .f32 := fun i =>
  if rowOwner i = org true 7 c then
    gemmHalf (xHalf X (decide ((i 0).val % 256 < 128)) (rowOwner i)) (wb Wt c)
      (ValueIdx.ix2 (n0 := 128) (n1 := 512) ⟨(i 0).val % 128, Nat.mod_lt _ (by decide)⟩ (i 1))
  else gemm (X (rowOwner i)) (wb Wt c) (ValueIdx.ix2 (n0 := 256) (n1 := 512) ⟨(i 0).val % 256, Nat.mod_lt _ (by decide)⟩ (i 1))

/-! ## The stores -/

/-- A store of `n` whole rows from row `o` on. -/
theorem write_rows {off : Fin 2 → ℕ} {n o : ℕ} (inb : ∀ a : Fin 2, off a + (![n, 512] : Fin 2 → ℕ) a ≤ S4096x512.size a) (hoff : off = ![o, 0])
    (p : Vec F (⟨2, ![n, 512]⟩ : Shape) .f32) (f : S4096x512.Idx → Elt F .f32) (i : S4096x512.Idx) :
    (oM.access (Rect.unit (s := S4096x512) off ![n, 512] inb)).write (Elt F) f p Finset.univ i
      = if h : o ≤ (i 0).val ∧ (i 0).val < o + n then p (ValueIdx.ix2 (n0 := n) (n1 := 512) ⟨(i 0).val - o, by omega⟩ (i 1)) else f i := by
  split
  · rename_i h
    exact View.read_writes_cons_rows_of_mem (Val := Elt F) oM.view f inb p [] i _ hoff (by show (i 0).val = o + ((i 0).val - o); omega) rfl
  · rename_i h
    exact View.read_writes_cons_unit_of_not_mem (Val := Elt F) oM.view f inb p [] i hoff 0 (by
      show (i 0).val < o ∨ o + n ≤ (i 0).val; omega)

/-- The half blocks `D` of rows hold what the device computes. -/
def Agree (c : Dev nD) (D : List ℕ) (f : S4096x512.Idx → Elt F .f32) : Prop := ∀ i, (i 0).val / 128 ∈ D → f i = outC X Wt c i

/-- The result's staging buffer with the half blocks `D` done. -/
def outRes (c : Dev nD) (D : List ℕ) : sProp 𝕄 :=
  iprop(∃ f : Buf (Elt F) (oM.view.loc (c : Thread nD τ)), ⌜Agree X Wt c D f⌝ ∗ (oM.view.loc (c : Thread nD τ) ↦{fullShare} f))

theorem agree_full (c o : Dev nD) (ho : o ≠ org true 7 c) {D : List ℕ} {f : S4096x512.Idx → Elt F .f32} (hf : Agree X Wt c D f)
    {off : Fin 2 → ℕ} (inb : ∀ a : Fin 2, off a + S256x512.size a ≤ S4096x512.size a) (hoff : off = ![256 * o.val, 0]) :
    Agree X Wt c (2 * o.val :: (2 * o.val + 1) :: D)
      ((oM.access (Rect.unit (s := S4096x512) off S256x512.size inb)).write (Elt F) f (gemm (X o) (wb Wt c)) Finset.univ) := by
  intro i hi
  refine (write_rows (n := 256) inb hoff (gemm (X o) (wb Wt c)) f i).trans ?_
  by_cases h : 256 * o.val ≤ (i 0).val ∧ (i 0).val < 256 * o.val + 256
  · rw [dif_pos h]
    have e : rowOwner i = o := Fin.ext (by show (i 0).val / 256 = o.val; omega)
    unfold outC
    rw [e, if_neg ho]
    congr 2
    exact Fin.ext (by show (i 0).val - 256 * o.val = (i 0).val % 256; omega)
  · rw [dif_neg h]
    refine hf i ?_
    rcases List.mem_cons.mp hi with h1 | h1
    · omega
    rcases List.mem_cons.mp h1 with h2 | h2
    · omega
    exact h2

theorem agree_half (c : Dev nD) (d : Bool) {D : List ℕ} {f : S4096x512.Idx → Elt F .f32} (hf : Agree X Wt c D f)
    {off : Fin 2 → ℕ} (inb : ∀ a : Fin 2, off a + S128x512.size a ≤ S4096x512.size a) (hoff : off = ![256 * (org true 7 c).val + hrow d, 0]) :
    Agree X Wt c ((2 * (org true 7 c).val + hrow d / 128) :: D)
      ((oM.access (Rect.unit (s := S4096x512) off S128x512.size inb)).write (Elt F) f (gemmHalf (xHalf X d (org true 7 c)) (wb Wt c)) Finset.univ) := by
  intro i hi
  refine (write_rows (n := 128) inb hoff (gemmHalf (xHalf X d (org true 7 c)) (wb Wt c)) f i).trans ?_
  have hd : hrow d = 0 ∧ d = true ∨ hrow d = 128 ∧ d = false := by cases d; exacts [.inr ⟨rfl, rfl⟩, .inl ⟨rfl, rfl⟩]
  by_cases h : 256 * (org true 7 c).val + hrow d ≤ (i 0).val ∧ (i 0).val < 256 * (org true 7 c).val + hrow d + 128
  · rw [dif_pos h]
    have e : rowOwner i = org true 7 c := Fin.ext (by show (i 0).val / 256 = (org true 7 c).val; omega)
    have e' : decide ((i 0).val % 256 < 128) = d := by
      rcases hd with ⟨h0, rfl⟩ | ⟨h0, rfl⟩
      · exact decide_eq_true (by omega)
      · exact decide_eq_false (by omega)
    unfold outC
    rw [e, if_pos rfl, e']
    congr 2
    exact Fin.ext (by show (i 0).val - (256 * (org true 7 c).val + hrow d) = (i 0).val % 128; omega)
  · rw [dif_neg h]
    refine hf i ?_
    rcases List.mem_cons.mp hi with h1 | h1
    · omega
    exact h1

/-! ## The operations -/

theorem store_full (c o : Dev nD) (ho : o ≠ org true 7 c) {D : List ℕ} {off : Fin 2 → ℕ}
    {inb : ∀ a : Fin 2, off a + S256x512.size a ≤ S4096x512.size a} (hoff : off = ![256 * o.val, 0])
    {p : Vec F S256x512 .f32} (hp : p = gemm (X o) (wb Wt c)) {hx} {hm} {k : PUnit → Prog (TpuEff nD τ sig (Elt F) Λ₀ .tc) α} :
    outRes X Wt c D ⊢ iprop((outRes X Wt c (2 * o.val :: (2 * o.val + 1) :: D) -∗ Runs c (k ⟨⟩) Q)
      -∗ Runs c (.op (.store oM (Rect.unit (s := S4096x512) off S256x512.size inb) p Finset.univ hx hm) k) Q) := by
  subst hp
  unfold outRes
  iintro ⟨%f, %hf, H⟩ Hk
  iapply (wp_store 𝒱₀ (c : Thread nD τ) none Set.univ (m := oM) (r := Rect.unit (s := S4096x512) off S256x512.size inb) (Mk := Finset.univ)
    (Finset.subset_univ _)) $$ H
  iintro H
  iapply Hk
  iexists _
  isplitr
  · ipureintro; exact agree_full X Wt c o ho hf inb hoff
  iexact H

theorem store_half (c : Dev nD) (d : Bool) {D : List ℕ} {off : Fin 2 → ℕ}
    {inb : ∀ a : Fin 2, off a + S128x512.size a ≤ S4096x512.size a} (hoff : off = ![256 * (org true 7 c).val + hrow d, 0])
    {p : Vec F S128x512 .f32} (hp : p = gemmHalf (xHalf X d (org true 7 c)) (wb Wt c)) {hx} {hm} {k : PUnit → Prog (TpuEff nD τ sig (Elt F) Λ₀ .tc) α} :
    outRes X Wt c D ⊢ iprop((outRes X Wt c ((2 * (org true 7 c).val + hrow d / 128) :: D) -∗ Runs c (k ⟨⟩) Q)
      -∗ Runs c (.op (.store oM (Rect.unit (s := S4096x512) off S128x512.size inb) p Finset.univ hx hm) k) Q) := by
  subst hp
  unfold outRes
  iintro ⟨%f, %hf, H⟩ Hk
  iapply (wp_store 𝒱₀ (c : Thread nD τ) none Set.univ (m := oM) (r := Rect.unit (s := S4096x512) off S128x512.size inb) (Mk := Finset.univ)
    (Finset.subset_univ _)) $$ H
  iintro H
  iapply Hk
  iexists _
  isplitr
  · ipureintro; exact agree_half X Wt c d hf inb hoff
  iexact H

/-- The load of the rows about to be overwritten. -/
theorem load_out (c : Dev nD) {D : List ℕ} {r : LoadRect S4096x512} {hl} {k : (r.shape.Idx → Elt F .f32) → Prog (TpuEff nD τ sig (Elt F) Λ₀ .tc) α} :
    outRes X Wt c D ⊢ iprop((∀ v, outRes X Wt c D -∗ Runs c (k v) Q) -∗ Runs c (.op (.load oM r hl) k) Q) := by
  unfold outRes
  iintro ⟨%f, %hf, H⟩ Hk
  iapply (wp_load 𝒱₀ (c : Thread nD τ) none Set.univ (m := oM) (Finset.subset_univ _)) $$ H
  iintro H
  ispecialize Hk $$ %(oM.view.readAt (Elt F) r f)
  iapply Hk
  iexists f
  isplitr; · ipureintro; exact hf
  iexact H

/-- The rounded weights in their scratch buffer. -/
def wbRes (c : Dev nD) : sProp 𝕄 := (wbM.view.loc (c : Thread nD τ)) ↦{fullShare} (wb Wt c)

theorem zero_off : (![0, 0] : Fin 2 → ℕ) = fun _ => 0 := by funext a; match a with | 0 => rfl | 1 => rfl

theorem load_wb (c : Dev nD) {inb : ∀ a : Fin 2, (![0, 0] : Fin 2 → ℕ) a + S4096x512.size a ≤ S4096x512.size a} {hl}
    {k : (S4096x512.Idx → Elt F .bf16) → Prog (TpuEff nD τ sig (Elt F) Λ₀ .tc) α} :
    wbRes Wt c ⊢ iprop((wbRes Wt c -∗ Runs c (k (wb Wt c)) Q)
      -∗ Runs c (.op (.load wbM (Rect.unit (s := S4096x512) ![0, 0] S4096x512.size inb).toLoadRect hl) k) Q) := by
  unfold wbRes
  iintro H Hk
  iapply (wp_load 𝒱₀ (c : Thread nD τ) none Set.univ (m := wbM) (Finset.subset_univ _)) $$ H
  iintro H
  have e : wbM.view.readAt (Elt F) (Rect.unit (s := S4096x512) ![0, 0] S4096x512.size inb).toLoadRect (wb Wt c) = wb Wt c :=
    Memref.readAt_unit_zero (Elt F) cc0_scratch1 zero_off inb (wb Wt c)
  rw [e]
  iapply Hk; iexact H

theorem load_x (c : Dev nD) {q : PosShare TreeShare} {inb : ∀ a : Fin 2, (![0, 0] : Fin 2 → ℕ) a + S256x4096.size a ≤ S256x4096.size a} {hl}
    {k : (S256x4096.Idx → Elt F .f32) → Prog (TpuEff nD τ sig (Elt F) Λ₀ .tc) α} :
    xRes X c q ⊢ iprop((xRes X c q -∗ Runs c (k (X c)) Q)
      -∗ Runs c (.op (.load xM (Rect.unit (s := S256x4096) ![0, 0] S256x4096.size inb).toLoadRect hl) k) Q) := by
  unfold xRes
  iintro H Hk
  iapply (wp_load 𝒱₀ (c : Thread nD τ) none Set.univ (m := xM) (View.setOn_subset_set _ _)) $$ H
  iintro H
  have e : xM.view.readAt (Elt F) (Rect.unit (s := S256x4096) ![0, 0] S256x4096.size inb).toLoadRect (X c) = X c :=
    Memref.readAt_unit_zero (Elt F) cc0_stg0_0 zero_off inb (X c)
  rw [e]
  iapply Hk; iexact H

/-- The load of slot `j` of the local buffer, -/
theorem load_slot (j : Fin 4) (c : Dev nD) {V : Vec F S256x4096 .f32} {off : Fin 3 → ℕ} (hoff : off = ![j.val, 0, 0])
    {inb : ∀ a : Fin 3, off a + S1x256x4096.size a ≤ S4x256x4096.size a} {hl}
    {k : (S1x256x4096.Idx → Elt F .f32) → Prog (TpuEff nD τ sig (Elt F) Λ₀ .tc) α} :
    bufRes j c V ⊢ iprop((∀ v, ⌜shapeCast S256x4096 v shapeCasts_S1x256x4096_S256x4096 = V⌝ -∗ bufRes j c V -∗ Runs c (k v) Q)
      -∗ Runs c (.op (.load bufM (Rect.unit (s := S4x256x4096) off S1x256x4096.size inb).toLoadRect hl) k) Q) := by
  subst hoff
  unfold bufRes
  iintro ⟨%f, %hf, H⟩ Hk
  iapply (wp_load 𝒱₀ (c : Thread nD τ) none Set.univ (m := bufM) (by rw [View.set_reshape, View.set_slice]; exact subset_rfl)) $$ H
  iintro H
  ispecialize Hk $$ %(bufM.view.readAt (Elt F) (Rect.unit (s := S4x256x4096) ![j.val, 0, 0] S1x256x4096.size inb).toLoadRect f)
  ispecialize Hk $$ %((Memref.read_squeeze_slice bufM _ (fun _ => rfl) squeezes_S1x256x4096_S256x4096 shapeCasts_S1x256x4096_S256x4096 f).symm.trans hf)
  iapply Hk
  iexists f
  isplitr; · ipureintro; exact hf
  iexact H

/-- and of half of it. -/
theorem load_half (j : Fin 4) (c : Dev nD) {V : Vec F S128x4096 .f32} {off : Fin 3 → ℕ} (hoff : off = ![j.val, 0, 0])
    {inb : ∀ a : Fin 3, off a + S1x128x4096.size a ≤ S4x256x4096.size a} {hl}
    {k : (S1x128x4096.Idx → Elt F .f32) → Prog (TpuEff nD τ sig (Elt F) Λ₀ .tc) α} :
    bufHalfRes j c V ⊢ iprop((∀ v, ⌜shapeCast S128x4096 v shapeCasts_S1x128x4096_S128x4096 = V⌝ -∗ bufHalfRes j c V -∗ Runs c (k v) Q)
      -∗ Runs c (.op (.load bufM (Rect.unit (s := S4x256x4096) off S1x128x4096.size inb).toLoadRect hl) k) Q) := by
  subst hoff
  unfold bufHalfRes
  iintro ⟨%f, %hf, H⟩ Hk
  iapply (wp_load 𝒱₀ (c : Thread nD τ) none Set.univ (m := bufM) (by rw [View.set_reshape, View.set_slice]; exact subset_rfl)) $$ H
  iintro H
  ispecialize Hk $$ %(bufM.view.readAt (Elt F) (Rect.unit (s := S4x256x4096) ![j.val, 0, 0] S1x128x4096.size inb).toLoadRect f)
  ispecialize Hk $$ %((Memref.read_squeeze_slice bufM _ (fun _ => rfl) squeezes_S1x128x4096_S128x4096 shapeCasts_S1x128x4096_S128x4096 f).symm.trans hf)
  iapply Hk
  iexists f
  isplitr; · ipureintro; exact hf
  iexact H

end Cert.RingProof
-- ==== Proof.Hops.lean ====
/-
The ring all-gather product — the steps of the kernel's body in its own views: the windows its offsets name, the share
of a received block that is passed on and the one that is copied, the barrier, and the product of one block.
-/
module

public import proofs.«01_k».proof.Proof.Product

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (Wt : Dev nD → Vec F S4096x512 .f32) (K : Dev nD × CellKind → ℕ)
variable {α : Type} {Q : α → sProp (MT nD τ sig Unit (Elt F) ℕ UU ℕ)}

/-! ## The windows -/

theorem own_slot (c : Dev nD) {inb} : slotOf (k0_off1 c) inb = slotM c := slotOf_eq c (k0_off1_eq c)
theorem right_slot (h : ℕ) (hh : h < 7) (c : Dev nD) {inb} : slotOf (k0_off3 c (BitVec.ofNat 32 h)) inb = slotM (org true h c) :=
  slotOf_eq (org true h c) (k0_off3_eq c ⟨h, hh⟩)
theorem left_slot (h : ℕ) (hh : h < 7) (c : Dev nD) {inb} : slotOf (k0_off4 c (BitVec.ofNat 32 h)) inb = slotM (org false h c) :=
  slotOf_eq (org false h c) (k0_off4_eq c ⟨h, hh⟩)
theorem right_rows (h : ℕ) (hh : h < 7) (c : Dev nD) : k0_off5 c (BitVec.ofNat 32 h) = ![256 * (org true h c).val, 0] := k0_off5_eq c ⟨h, hh⟩
theorem left_rows (h : ℕ) (hh : h < 7) (c : Dev nD) : k0_off6 c (BitVec.ofNat 32 h) = ![256 * (org false h c).val, 0] := k0_off6_eq c ⟨h, hh⟩
theorem right_half (c : Dev nD) {inb} : halfOf (k0_off7 c) inb = halfM true (org true 6 c) :=
  halfOf_eq true (org true 6 c) ((k0_off7_eq c).trans (by revert c; decide))
theorem left_half (c : Dev nD) {inb} : halfOf (k0_off8 c) inb = halfM false (org false 6 c) :=
  halfOf_eq false (org false 6 c) ((k0_off8_eq c).trans (by revert c; decide))
theorem far_top (c : Dev nD) {inb} : halfOf (k0_off9 c) inb = halfM true (org true 7 c) :=
  halfOf_eq true (org true 7 c) ((k0_off9_eq c).trans (by revert c; decide))
theorem far_bottom (c : Dev nD) {inb} : halfOf (k0_off11 c) inb = halfM false (org true 7 c) :=
  halfOf_eq false (org true 7 c) ((k0_off11_eq c).trans (by revert c; decide))

theorem dev_nxt {n : ℕ} {hn : n < nD} {c : Dev nD} (h : n = (c.val + 1) % 16) : (⟨n, hn⟩ : Dev nD) = dn true c := Fin.ext h
theorem dev_prv {n : ℕ} {hn : n < nD} {c : Dev nD} (h : n = (c.val + 15) % 16) : (⟨n, hn⟩ : Dev nD) = dn false c := Fin.ext h

/-! ## The semaphores -/

theorem send_sem_right : SemLoc.dma cc0_scratch2.sem = semAt (kSend true) := by decide
theorem send_sem_left : SemLoc.dma cc0_scratch3.sem = semAt (kSend false) := by decide
theorem recv_sem_right (h : ℕ) (hh : h < 8) {inb} :
    SemLoc.dma ((cc0_scratch4.slice (Rect.unit (s := S8) ![h] S1.size inb)).squeeze S_ squeezes_S1_S_).sem = semAt (kRecv true ⟨h, hh⟩) := by
  have e : ∀ h : Fin 8, ∀ inb, SemLoc.dma ((cc0_scratch4.slice (Rect.unit (s := S8) ![h.val] S1.size inb)).squeeze S_ squeezes_S1_S_).sem = semAt (kRecv true h) := by
    decide
  exact e ⟨h, hh⟩ inb
theorem recv_sem_left (h : ℕ) (hh : h < 8) {inb} :
    SemLoc.dma ((cc0_scratch5.slice (Rect.unit (s := S8) ![h] S1.size inb)).squeeze S_ squeezes_S1_S_).sem = semAt (kRecv false ⟨h, hh⟩) := by
  have e : ∀ h : Fin 8, ∀ inb, SemLoc.dma ((cc0_scratch5.slice (Rect.unit (s := S8) ![h.val] S1.size inb)).squeeze S_ squeezes_S1_S_).sem = semAt (kRecv false h) := by
    decide
  exact e ⟨h, hh⟩ inb
theorem loc_sem (j : ℕ) (hj : j < 4) {inb} :
    SemLoc.dma ((cc0_scratch6.slice (Rect.unit (s := S4) ![j] S1.size inb)).squeeze S_ squeezes_S1_S_).sem = semAt (kLoc ⟨j, hj⟩) := by
  have e : ∀ j : Fin 4, ∀ inb, SemLoc.dma ((cc0_scratch6.slice (Rect.unit (s := S4) ![j.val] S1.size inb)).squeeze S_ squeezes_S1_S_).sem = semAt (kLoc j) := by
    decide
  exact e ⟨j, hj⟩ inb

/-! ## The credits: by the size alone -/

theorem credit_full {sp : Space} (m : Memref sig .tc sp S256x4096 .f32) : m.view.dmaCredit = nFull := rfl
theorem credit_half {sp : Space} (m : Memref sig .tc sp S128x4096 .f32) : m.view.dmaCredit = nHalf := rfl

/-- Every block but the one eight devices away is received whole, in a hop before the last. -/
theorem org_ne_far (d : Bool) (h : ℕ) (hh : h < 7) (c : Dev nD) : org d h c ≠ org true 7 c := by
  have e : ∀ (d : Bool) (h : Fin 7) (c : Dev nD), org d h.val c ≠ org true 7 c := by decide
  exact e d ⟨h, hh⟩ c
theorem own_ne_far (c : Dev nD) : c ≠ org true 7 c := by revert c; decide

/-! ## A received block: a share to pass on, a share to copy -/

theorem slot_split (o c : Dev nD) : slotRes X o c fullShare ⊢ iprop(slotRes X o c fullShare.left ∗ slotRes X o c fullShare.right) := by
  unfold slotRes
  iintro ⟨%f, %hf, H⟩
  ihave H' := ((pointsTo_share (PosShare.mem_left_op_right fullShare)).1) $$ H
  icases H' with ⟨H1, H2⟩
  isplitl [H1]
  · iexists f; isplitr; · ipureintro; exact hf
    iexact H1
  · iexists f; isplitr; · ipureintro; exact hf
    iexact H2

/-! ## The transfers, the waits and the copies, with the body's semaphores and credits -/

theorem amount_full {sp : Space} (m : Memref sig .tc sp S256x4096 .f32) {sem : SemLoc sig} {d : Bool} {h : Fin 8} (hs : sem = semAt (kRecv d h)) {n : ℕ} (hn : n < 7) :
    m.view.amount sem = amt n := by subst hs; exact (credit_full m).trans (if_pos hn).symm
theorem amount_half {sp : Space} (m : Memref sig .tc sp S128x4096 .f32) {sem : SemLoc sig} {d : Bool} {h : Fin 8} (hs : sem = semAt (kRecv d h)) {n : ℕ} (hn : ¬ n < 7) :
    m.view.amount sem = amt n := by subst hs; exact (credit_half m).trans (if_neg hn).symm

/-- The block of hop `h` from the left passed on to the right, -/
theorem pass_right (h : ℕ) (hh : h + 1 < 7) (c n : Dev nD) (sl : ℕ) (hn : n = dn true c)
    {src dst : Memref sig .tc .hbm S256x4096 .f32} (hsrc : src = slotM (org true h c)) (hdst : dst = slotM (org true h c))
    {sem : SemLoc sig} (hsem : sem = semAt (kRecv true ⟨h + 1, by omega⟩))
    {hsc : dst.view.ref.isScScratch = false} {hx₁ : src.view.WordExact} {hx₂ : dst.view.WordExact}
    {hty : DmaTarget.Typed .hbm sem (.remote (Dev.tc n : Thread nD τ) dst (.dma cc0_scratch2.sem) hsc)} {k : PUnit → Prog (TpuEff nD τ sig (Elt F) Λ₀ .tc) α}
    {q : PosShare TreeShare} :
    records X K ⊢ iprop(sendIdle (F := F) true (h + 1) c -∗ Owes (F := F) c (owed c (h + 1) sl) -∗ slotRes X (org true h c) c q
      -∗ ((sendBusy (F := F) true (h + 1) c ∗ Owes (F := F) c (owed c (h + 2) sl)) -∗ Runs c (k ⟨⟩) Q)
      -∗ Runs c (.op (.enqueueDma src (.remote (Dev.tc n : Thread nD τ) dst (.dma cc0_scratch2.sem) hsc) sem hx₁ hx₂ hty) k) Q) :=
  send_next X K true h hh c n hn hsrc hdst send_sem_right hsem (amount_full dst hsem hh) _ (owed_step_right c ⟨h + 1, by omega⟩ sl)

/-- the block of hop `h` from the right passed on to the left; -/
theorem pass_left (h : ℕ) (hh : h + 1 < 7) (c n : Dev nD) (sr : ℕ) (hn : n = dn false c)
    {src dst : Memref sig .tc .hbm S256x4096 .f32} (hsrc : src = slotM (org false h c)) (hdst : dst = slotM (org false h c))
    {sem : SemLoc sig} (hsem : sem = semAt (kRecv false ⟨h + 1, by omega⟩))
    {hsc : dst.view.ref.isScScratch = false} {hx₁ : src.view.WordExact} {hx₂ : dst.view.WordExact}
    {hty : DmaTarget.Typed .hbm sem (.remote (Dev.tc n : Thread nD τ) dst (.dma cc0_scratch3.sem) hsc)} {k : PUnit → Prog (TpuEff nD τ sig (Elt F) Λ₀ .tc) α}
    {q : PosShare TreeShare} :
    records X K ⊢ iprop(sendIdle (F := F) false (h + 1) c -∗ Owes (F := F) c (owed c sr (h + 1)) -∗ slotRes X (org false h c) c q
      -∗ ((sendBusy (F := F) false (h + 1) c ∗ Owes (F := F) c (owed c sr (h + 2))) -∗ Runs c (k ⟨⟩) Q)
      -∗ Runs c (.op (.enqueueDma src (.remote (Dev.tc n : Thread nD τ) dst (.dma cc0_scratch3.sem) hsc) sem hx₁ hx₂ hty) k) Q) :=
  send_next X K false h hh c n hn hsrc hdst send_sem_left hsem (amount_full dst hsem hh) _ (owed_step_left c sr ⟨h + 1, by omega⟩)

/-- the last transfers, of half a block each; -/
theorem pass_half_right (c n : Dev nD) (sl : ℕ) (hn : n = dn true c)
    {src dst : Memref sig .tc .hbm S128x4096 .f32} (hsrc : src = halfM true (org true 6 c)) (hdst : dst = halfM true (org true 6 c))
    {sem : SemLoc sig} (hsem : sem = semAt (kRecv true ⟨7, by decide⟩))
    {hsc : dst.view.ref.isScScratch = false} {hx₁ : src.view.WordExact} {hx₂ : dst.view.WordExact}
    {hty : DmaTarget.Typed .hbm sem (.remote (Dev.tc n : Thread nD τ) dst (.dma cc0_scratch2.sem) hsc)} {k : PUnit → Prog (TpuEff nD τ sig (Elt F) Λ₀ .tc) α}
    {q : PosShare TreeShare} :
    records X K ⊢ iprop(sendIdle (F := F) true 7 c -∗ Owes (F := F) c (owed c 7 sl) -∗ slotRes X (org true 6 c) c q
      -∗ ((sendBusy (F := F) true 7 c ∗ Owes (F := F) c (owed c 8 sl)) -∗ Runs c (k ⟨⟩) Q)
      -∗ Runs c (.op (.enqueueDma src (.remote (Dev.tc n : Thread nD τ) dst (.dma cc0_scratch2.sem) hsc) sem hx₁ hx₂ hty) k) Q) :=
  send_last X K true c n hn hsrc hdst send_sem_right hsem (amount_half dst hsem (by decide)) _ (owed_step_right c 7 sl)
theorem pass_half_left (c n : Dev nD) (sr : ℕ) (hn : n = dn false c)
    {src dst : Memref sig .tc .hbm S128x4096 .f32} (hsrc : src = halfM false (org false 6 c)) (hdst : dst = halfM false (org false 6 c))
    {sem : SemLoc sig} (hsem : sem = semAt (kRecv false ⟨7, by decide⟩))
    {hsc : dst.view.ref.isScScratch = false} {hx₁ : src.view.WordExact} {hx₂ : dst.view.WordExact}
    {hty : DmaTarget.Typed .hbm sem (.remote (Dev.tc n : Thread nD τ) dst (.dma cc0_scratch3.sem) hsc)} {k : PUnit → Prog (TpuEff nD τ sig (Elt F) Λ₀ .tc) α}
    {q : PosShare TreeShare} :
    records X K ⊢ iprop(sendIdle (F := F) false 7 c -∗ Owes (F := F) c (owed c sr 7) -∗ slotRes X (org false 6 c) c q
      -∗ ((sendBusy (F := F) false 7 c ∗ Owes (F := F) c (owed c sr 8)) -∗ Runs c (k ⟨⟩) Q)
      -∗ Runs c (.op (.enqueueDma src (.remote (Dev.tc n : Thread nD τ) dst (.dma cc0_scratch3.sem) hsc) sem hx₁ hx₂ hty) k) Q) :=
  send_last X K false c n hn hsrc hdst send_sem_left hsem (amount_half dst hsem (by decide)) _ (owed_step_left c sr 7)

/-- the wait for the first transfer to have left, with the lent share of the staged block back; -/
theorem left_first (d : Bool) (c : Dev nD) {sr sl : ℕ} {sem : DmaSem sig} (hs : SemLoc.dma sem = semAt (kSend d)) {sp' : Space} {s' : Shape} {e' : EltTy}
    {src : Memref sig .tc sp' s' e'} {sp : Space} {dst : Memref sig .tc sp S256x4096 .f32} {hx₁ : src.view.WordExact} {hx₂ : dst.view.WordExact}
    {k : PUnit → Prog (TpuEff nD τ sig (Elt F) Λ₀ .tc) α} :
    records X K ⊢ iprop(sendBusy (F := F) d 0 c -∗ Owes (F := F) c (owed c sr sl)
      -∗ ((sendIdle (F := F) d 1 c ∗ Owes (F := F) c (owed c sr sl) ∗ xRes X c (xShare d)) -∗ Runs c (k ⟨⟩) Q)
      -∗ Runs c (.op (.waitDma2 sem src dst hx₁ hx₂) k) Q) := by
  have e : xRes X c (xShare d) = sendPay X d 0 c := (if_pos rfl).symm
  rw [e]
  exact send_wait X K d 0 (by decide) c sr sl hs ((credit_full dst).trans (if_pos (by decide)).symm)

/-- a later one, -/
theorem left_next (d : Bool) (h : ℕ) (hh : h < 7) (c : Dev nD) {sr sl : ℕ} {sem : DmaSem sig} (hs : SemLoc.dma sem = semAt (kSend d)) {sp' : Space} {s' : Shape} {e' : EltTy}
    {src : Memref sig .tc sp' s' e'} {sp : Space} {dst : Memref sig .tc sp S256x4096 .f32} {hx₁ : src.view.WordExact} {hx₂ : dst.view.WordExact}
    {k : PUnit → Prog (TpuEff nD τ sig (Elt F) Λ₀ .tc) α} :
    records X K ⊢ iprop(sendBusy (F := F) d h c -∗ Owes (F := F) c (owed c sr sl)
      -∗ ((sendIdle (F := F) d (h + 1) c ∗ Owes (F := F) c (owed c sr sl)) -∗ Runs c (k ⟨⟩) Q)
      -∗ Runs c (.op (.waitDma2 sem src dst hx₁ hx₂) k) Q) := by
  iintro #HR Hs HO Hk
  iapply (send_wait X K d h (by omega) c sr sl hs ((credit_full dst).trans (if_pos hh).symm)) $$ HR Hs HO
  iintro ⟨Hs, HO, -⟩
  iapply Hk
  isplitl [Hs]; · iexact Hs
  iexact HO
/-- and the last; -/
theorem left_last (d : Bool) (c : Dev nD) {sr sl : ℕ} {sem : DmaSem sig} (hs : SemLoc.dma sem = semAt (kSend d)) {sp' : Space} {s' : Shape} {e' : EltTy}
    {src : Memref sig .tc sp' s' e'} {sp : Space} {dst : Memref sig .tc sp S128x4096 .f32} {hx₁ : src.view.WordExact} {hx₂ : dst.view.WordExact}
    {k : PUnit → Prog (TpuEff nD τ sig (Elt F) Λ₀ .tc) α} :
    records X K ⊢ iprop(sendBusy (F := F) d 7 c -∗ Owes (F := F) c (owed c sr sl)
      -∗ ((sendIdle (F := F) d 8 c ∗ Owes (F := F) c (owed c sr sl)) -∗ Runs c (k ⟨⟩) Q)
      -∗ Runs c (.op (.waitDma2 sem src dst hx₁ hx₂) k) Q) := by
  iintro #HR Hs HO Hk
  iapply (send_wait X K d 7 (by decide) c sr sl hs ((credit_half dst).trans (if_neg (by decide)).symm)) $$ HR Hs HO
  iintro ⟨Hs, HO, -⟩
  iapply Hk
  isplitl [Hs]; · iexact Hs
  iexact HO

/-- the wait for a block to arrive; -/
theorem arrive (d : Bool) (h : ℕ) (hh : h < 7) (c : Dev nD) {sr sl : ℕ} (h₁ : h < sr) (h₂ : h < sl)
    {sem : DmaSem sig} (hs : SemLoc.dma sem = semAt (kRecv d ⟨h, by omega⟩)) {sp sp' : Space} {s' : Shape} {e' : EltTy}
    {src : Memref sig .tc sp' s' e'} {dst : Memref sig .tc sp S256x4096 .f32} {hx₁ : src.view.WordExact} {hx₂ : dst.view.WordExact}
    {k : PUnit → Prog (TpuEff nD τ sig (Elt F) Λ₀ .tc) α} :
    records X K ⊢ iprop(recvRes (F := F) d h c -∗ Owes (F := F) c (owed c sr sl)
      -∗ ((recvRes (F := F) d (h + 1) c ∗ Owes (F := F) c (owed c sr sl) ∗ slotRes X (org d h c) c fullShare) -∗ Runs c (k ⟨⟩) Q)
      -∗ Runs c (.op (.waitDma2 sem src dst hx₁ hx₂) k) Q) :=
  recv_full X K d h hh c sr sl h₁ h₂ hs (credit_full dst)

/-- and for half a block; -/
theorem arrive_half (d : Bool) (c : Dev nD) {sr sl : ℕ} (h₁ : 7 < sr) (h₂ : 7 < sl)
    {sem : DmaSem sig} (hs : SemLoc.dma sem = semAt (kRecv d ⟨7, by decide⟩)) {sp sp' : Space} {s' : Shape} {e' : EltTy}
    {src : Memref sig .tc sp' s' e'} {dst : Memref sig .tc sp S128x4096 .f32} {hx₁ : src.view.WordExact} {hx₂ : dst.view.WordExact}
    {k : PUnit → Prog (TpuEff nD τ sig (Elt F) Λ₀ .tc) α} :
    records X K ⊢ iprop(recvRes (F := F) d 7 c -∗ Owes (F := F) c (owed c sr sl)
      -∗ ((recvRes (F := F) d 8 c ∗ Owes (F := F) c (owed c sr sl) ∗ halfRes X d (org true 7 c) c fullShare) -∗ Runs c (k ⟨⟩) Q)
      -∗ Runs c (.op (.waitDma2 sem src dst hx₁ hx₂) k) Q) := by
  rw [← org_seven d c]
  exact recv_last X K d c sr sl h₁ h₂ hs (credit_half dst)

/-- the copy of a block to slot `j` of the local buffer, and the wait for it. -/
theorem fetch (j : Fin 4) (r : ℕ) (d : Bool) (h : ℕ) (hr : (r < 5 ∧ r < rounds (kLoc j) ∧ ¬ lastLoc j r) ∧ d = decide (j.val < 2) ∧ h = 2 * r + j.val % 2) (c : Dev nD)
    {src : Memref sig .tc .hbm S256x4096 .f32} (hsrc : src = slotM (org d h c))
    {sem : DmaSem sig} (hs : SemLoc.dma sem = semAt (kLoc j))
    {hx₁ : src.view.WordExact} {hx₂ : (bufSlot j).view.WordExact} {hty : DmaTarget.Typed .hbm (.dma sem) (.here (bufSlot j) : DmaTarget nD τ sig .tc _ _ _)}
    {k : PUnit → Prog (TpuEff nD τ sig (Elt F) Λ₀ .tc) α} {q : PosShare TreeShare} :
    records X K ⊢ iprop(locIdle (F := F) j r c -∗ slotRes X (org d h c) c q -∗ bufAny (F := F) j c
      -∗ (locBusy (F := F) j r c -∗ Runs c (k ⟨⟩) Q)
      -∗ Runs c (.op (.enqueueDma src (.here (bufSlot j)) (.dma sem) hx₁ hx₂ hty) k) Q) :=
  copy_full X K j r hr.1.1 hr.1.2.1 hr.1.2.2 c _ (by rw [hr.2.1, hr.2.2]) hsrc hs ((credit_full (bufSlot j)).trans (if_neg hr.1.2.2).symm)
theorem fetched (j : Fin 4) (r : ℕ) (d : Bool) (h : ℕ) (hr : (r < rounds (kLoc j) ∧ ¬ lastLoc j r) ∧ d = decide (j.val < 2) ∧ h = 2 * r + j.val % 2) (c : Dev nD) {sr sl : ℕ}
    {sem : DmaSem sig} (hs : SemLoc.dma sem = semAt (kLoc j)) {sp sp' : Space} {s' : Shape} {e' : EltTy}
    {src : Memref sig .tc sp' s' e'} {dst : Memref sig .tc sp S256x4096 .f32} {hx₁ : src.view.WordExact} {hx₂ : dst.view.WordExact}
    {k : PUnit → Prog (TpuEff nD τ sig (Elt F) Λ₀ .tc) α} :
    records X K ⊢ iprop(locBusy (F := F) j r c -∗ Owes (F := F) c (owed c sr sl)
      -∗ ((locIdle (F := F) j (r + 1) c ∗ Owes (F := F) c (owed c sr sl) ∗ bufRes j c (X (org d h c))) -∗ Runs c (k ⟨⟩) Q)
      -∗ Runs c (.op (.waitDma2 sem src dst hx₁ hx₂) k) Q) := by
  have e : locPay X j r c = bufRes j c (X (org d h c)) := by rw [hr.2.1, hr.2.2]; exact if_neg hr.1.2
  rw [← e]
  exact copy_wait X K j r hr.1.1 c sr sl hs ((credit_full dst).trans (if_neg hr.1.2).symm)

/-- The same for half a block. -/
theorem fetch_half (j : Fin 4) (r : ℕ) (d : Bool) (hr : (r < 5 ∧ r < rounds (kLoc j) ∧ lastLoc j r) ∧ d = decide (j = 0)) (c : Dev nD)
    {src : Memref sig .tc .hbm S128x4096 .f32} (hsrc : src = halfM d (org true 7 c))
    {sem : DmaSem sig} (hs : SemLoc.dma sem = semAt (kLoc j))
    {hx₁ : src.view.WordExact} {hx₂ : (bufHalf j).view.WordExact} {hty : DmaTarget.Typed .hbm (.dma sem) (.here (bufHalf j) : DmaTarget nD τ sig .tc _ _ _)}
    {k : PUnit → Prog (TpuEff nD τ sig (Elt F) Λ₀ .tc) α} {q : PosShare TreeShare} :
    records X K ⊢ iprop(locIdle (F := F) j r c -∗ halfRes X d (org true 7 c) c q -∗ bufAny (F := F) j c
      -∗ ((locBusy (F := F) j r c ∗ bufRest (F := F) j c) -∗ Runs c (k ⟨⟩) Q)
      -∗ Runs c (.op (.enqueueDma src (.here (bufHalf j)) (.dma sem) hx₁ hx₂ hty) k) Q) := by
  obtain ⟨⟨h5, hr', hl⟩, rfl⟩ := hr
  exact copy_half X K j r h5 hr' hl c hsrc hs ((credit_half (bufHalf j)).trans (if_pos hl).symm)
theorem fetched_half (j : Fin 4) (r : ℕ) (d : Bool) (hr : (r < rounds (kLoc j) ∧ lastLoc j r) ∧ d = decide (j = 0)) (c : Dev nD) {sr sl : ℕ}
    {sem : DmaSem sig} (hs : SemLoc.dma sem = semAt (kLoc j)) {sp sp' : Space} {s' : Shape} {e' : EltTy}
    {src : Memref sig .tc sp' s' e'} {dst : Memref sig .tc sp S128x4096 .f32} {hx₁ : src.view.WordExact} {hx₂ : dst.view.WordExact}
    {k : PUnit → Prog (TpuEff nD τ sig (Elt F) Λ₀ .tc) α} :
    records X K ⊢ iprop(locBusy (F := F) j r c -∗ Owes (F := F) c (owed c sr sl)
      -∗ ((locIdle (F := F) j (r + 1) c ∗ Owes (F := F) c (owed c sr sl) ∗ bufHalfRes j c (xHalf X d (org true 7 c))) -∗ Runs c (k ⟨⟩) Q)
      -∗ Runs c (.op (.waitDma2 sem src dst hx₁ hx₂) k) Q) := by
  obtain ⟨⟨hr', hl⟩, rfl⟩ := hr
  have e : locPay X j r c = bufHalfRes j c (xHalf X (decide (j = 0)) (org true 7 c)) := if_pos hl
  rw [← e]
  exact copy_wait X K j r hr' c sr sl hs ((credit_half dst).trans (if_pos hl).symm)

theorem runs_ret (c : Dev nD) (r : α) : Q r ⊢ Runs c (.ret r : Prog (TpuEff nD τ sig (Elt F) Λ₀ .tc) α) Q := by
  unfold Runs; rw [wp_ret]; iintro H; imodintro; iexact H

/-! ## The barrier -/

/-- What is held for the transfers in direction `d` before the neighbour's slots are. -/
def sendStart (d : Bool) (c : Dev nD) : sProp 𝕄 :=
  iprop(atPos ER (cell (kSend d) c) 0 ∅ 0
    ∗ bigSep Finset.univ fun h : Fin 8 => iprop(dutyTok ER (cell (kSend d) c) h.val false ∗ dutyTok ER (cell (kRecv d h) (dn d c)) 0 false))

theorem send_ready (d : Bool) (c : Dev nD) : records X K ⊢ iprop(sendStart (F := F) d c -∗ barPay (F := F) d c -∗ sendIdle (F := F) d 0 c) := by
  unfold sendStart sendIdle barPay sendRes fromTo
  iintro #HR ⟨Hat, Ht⟩ Hb
  isplitl [Hat]; · iexact Hat
  isplitr; · iapply (records_reached X K (kSend d) c); iexact HR
  iapply (show iprop((bigSep Finset.univ fun h : Fin 8 => iprop(dutyTok ER (cell (kSend d) c) h.val false ∗ dutyTok ER (cell (kRecv d h) (dn d c)) 0 false))
      ∗ bigSep Finset.univ fun h : Fin 8 => dstRes (F := F) d h c)
    ⊢ bigSep Finset.univ (fun h : Fin 8 => if 0 ≤ h.val then
        (iprop(dutyTok ER (cell (kSend d) c) h.val false ∗ dutyTok ER (cell (kRecv d h) (dn d c)) 0 false ∗ dstRes (F := F) d h c) : sProp 𝕄) else iprop(emp)) from by
      rw [← bigSep_sep']
      refine bigSep_mono fun h _ => ?_
      rw [if_pos (Nat.zero_le _)]
      exact sep_assoc)
  isplitl [Ht]; · iexact Ht
  iexact Hb

/-- The two barrier duties a device has, and its own barrier's position: -/
def barStart (c : Dev nD) : sProp 𝕄 :=
  iprop(dutyTok ER (cell kBar (prv c)) 0 true ∗ dutyTok ER (cell kBar (nxt c)) 0 false
    ∗ barPay (F := F) true (prv c) ∗ barPay (F := F) false (nxt c)
    ∗ atPos ER (cell kBar c) 0 ∅ 0 ∗ cred (tallyAt (cell kBar c) () 2))

/-! ## The product of one block -/

/-- The half blocks of rows `D`, and those of block `o`. -/
abbrev done (o : Dev nD) (D : List ℕ) : List ℕ := 2 * o.val :: (2 * o.val + 1) :: D

/-- Slot `j` loaded, its block multiplied and stored. -/
theorem gemm_step (j : Fin 4) (c o : Dev nD) (ho : o ≠ org true 7 c) {D : List ℕ} {off : Fin 3 → ℕ} {off₂ : Fin 2 → ℕ}
    (hoff : off = ![j.val, 0, 0]) (hoff₂ : off₂ = ![256 * o.val, 0])
    {inb : ∀ a : Fin 3, off a + S1x256x4096.size a ≤ S4x256x4096.size a} {inbw : ∀ a : Fin 2, (![0, 0] : Fin 2 → ℕ) a + S4096x512.size a ≤ S4096x512.size a}
    {inb₂ : ∀ a : Fin 2, off₂ a + S256x512.size a ≤ S4096x512.size a} {r : LoadRect S4096x512}
    {p : Vec F S1x256x4096 .f32 → Vec F S4096x512 .bf16 → Vec F S256x512 .f32}
    (hp : ∀ v w, p v w = gemm (shapeCast S256x4096 v shapeCasts_S1x256x4096_S256x4096) w)
    {hl₁ hl₂ hl₃ hx hm} {k : PUnit → Prog (TpuEff nD τ sig (Elt F) Λ₀ .tc) α} :
    bufRes j c (X o) ⊢ iprop(wbRes Wt c -∗ outRes X Wt c D
      -∗ ((bufAny (F := F) j c ∗ wbRes Wt c ∗ outRes X Wt c (2 * o.val :: (2 * o.val + 1) :: D)) -∗ Runs c (k ⟨⟩) Q)
      -∗ Runs c (.op (.load bufM (Rect.unit (s := S4x256x4096) off S1x256x4096.size inb).toLoadRect hl₁) fun v =>
          .op (.load wbM (Rect.unit (s := S4096x512) ![0, 0] S4096x512.size inbw).toLoadRect hl₂) fun w =>
          .op (.load oM r hl₃) fun _ =>
          .op (.store oM (Rect.unit (s := S4096x512) off₂ S256x512.size inb₂) (p v w) Finset.univ hx hm) k) Q) := by
  iintro Hb Hw Ho Hk
  iapply (load_slot (F := F) j c hoff) $$ Hb
  iintro %v %hv Hb
  iapply (load_wb Wt c) $$ Hw
  iintro Hw
  iapply (load_out X Wt c) $$ Ho
  iintro %u Ho
  iapply (store_full X Wt c o ho hoff₂ ((hp v (wb Wt c)).trans (by rw [hv]))) $$ Ho
  iintro Ho
  iapply Hk
  isplitl [Hb]; · iapply (bufRes_any j c (X o)); iexact Hb
  isplitl [Hw]; · iexact Hw
  iexact Ho

/-- The first half of slot `j` loaded, half a block multiplied and stored. -/
theorem gemm_half_step (j : Fin 4) (c : Dev nD) (d : Bool) {D : List ℕ} {off : Fin 3 → ℕ} {off₂ : Fin 2 → ℕ}
    (hoff : off = ![j.val, 0, 0]) (hoff₂ : off₂ = ![256 * (org true 7 c).val + hrow d, 0])
    {inb : ∀ a : Fin 3, off a + S1x128x4096.size a ≤ S4x256x4096.size a} {inbw : ∀ a : Fin 2, (![0, 0] : Fin 2 → ℕ) a + S4096x512.size a ≤ S4096x512.size a}
    {inb₂ : ∀ a : Fin 2, off₂ a + S128x512.size a ≤ S4096x512.size a} {r : LoadRect S4096x512}
    {p : Vec F S1x128x4096 .f32 → Vec F S4096x512 .bf16 → Vec F S128x512 .f32}
    (hp : ∀ v w, p v w = gemmHalf (shapeCast S128x4096 v shapeCasts_S1x128x4096_S128x4096) w)
    {hl₁ hl₂ hl₃ hx hm} {k : PUnit → Prog (TpuEff nD τ sig (Elt F) Λ₀ .tc) α} :
    bufHalfRes j c (xHalf X d (org true 7 c)) ⊢ iprop(wbRes Wt c -∗ outRes X Wt c D
      -∗ ((bufHalfRes j c (xHalf X d (org true 7 c)) ∗ wbRes Wt c ∗ outRes X Wt c ((2 * (org true 7 c).val + hrow d / 128) :: D)) -∗ Runs c (k ⟨⟩) Q)
      -∗ Runs c (.op (.load bufM (Rect.unit (s := S4x256x4096) off S1x128x4096.size inb).toLoadRect hl₁) fun v =>
          .op (.load wbM (Rect.unit (s := S4096x512) ![0, 0] S4096x512.size inbw).toLoadRect hl₂) fun w =>
          .op (.load oM r hl₃) fun _ =>
          .op (.store oM (Rect.unit (s := S4096x512) off₂ S128x512.size inb₂) (p v w) Finset.univ hx hm) k) Q) := by
  iintro Hb Hw Ho Hk
  iapply (load_half (F := F) j c hoff) $$ Hb
  iintro %v %hv Hb
  iapply (load_wb Wt c) $$ Hw
  iintro Hw
  iapply (load_out X Wt c) $$ Ho
  iintro %u Ho
  iapply (store_half X Wt c d hoff₂ ((hp v (wb Wt c)).trans (by rw [hv]))) $$ Ho
  iintro Ho
  iapply Hk
  isplitl [Hb]; · iexact Hb
  isplitl [Hw]; · iexact Hw
  iexact Ho

end Cert.RingProof
-- ==== Proof.Parts.lean ====
/-
The ring all-gather product — the kernel's body, part by part: what each part of the printed body takes and leaves,
on a device `c` that is never chosen.
-/
module

public import proofs.«01_k».proof.Proof.Hops

@[expose] public section

set_option backward.proofsInPublic true
set_option maxRecDepth 8000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (Wt : Dev nD → Vec F S4096x512 .f32) (K : Dev nD × CellKind → ℕ)

/-- A part of the body on the buffers the call names. -/
abbrev onRefs {β : Type 1} (p : (arg0 : Memref sig .tc .vmem S256x4096 .f32) → arg0.IsWhole → (arg1 : Memref sig .tc .vmem S4096x512 .f32) → arg1.IsWhole →
    (arg2 : Memref sig .tc .vmem S4096x512 .f32) → arg2.IsWhole → (arg3 : Memref sig .tc .hbm S16x256x4096 .f32) → arg3.IsWhole →
    (arg4 : Memref sig .tc .vmem S4x256x4096 .f32) → arg4.IsWhole → (arg5 : Memref sig .tc .vmem S4096x512 .bf16) → arg5.IsWhole →
    DmaSems sig S_ → DmaSems sig S_ → DmaSems sig S8 → DmaSems sig S8 → DmaSems sig S4 → β) : β :=
  p xM (Memref.isWhole_whole _) wM (Memref.isWhole_whole _) oM (Memref.isWhole_whole _) commM (Memref.isWhole_whole _)
    bufM (Memref.isWhole_whole _) wbM (Memref.isWhole_whole _) cc0_scratch2 cc0_scratch3 cc0_scratch4 cc0_scratch5 cc0_scratch6

/-! Every part takes what it names and gives it back, changed, to what follows it. -/

section
variable {Q : BitVec 32 → sProp (MT nD τ sig Unit (Elt F) ℕ UU ℕ)} (c : Dev nD) {D : List ℕ}

theorem part3 (v2 v5 v7 v55 c0 : BitVec 32) :
    records X K ⊢ iprop(sendIdle true 1 c -∗ sendBusy false 0 c -∗ recvRes false 0 c -∗ slotRes X (org true 0 c) c fullShare
      -∗ locIdle 0 0 c -∗ bufAny 0 c -∗ Owes c (owed c 1 1)
      -∗ (∀ r, sendBusy true 1 c -∗ sendIdle false 1 c -∗ recvRes false 1 c -∗ slotRes X (org false 0 c) c fullShare
            -∗ locBusy 0 0 c -∗ xRes X c (xShare false) -∗ Owes c (owed c 2 1) -∗ Q r)
      -∗ Runs c (onRefs (k0_part3 (F := F)) c v2 v5 v7 v55 c0) Q) := by
  unfold onRefs
  rw [k0_part3_eq_skeleton]; unfold k0_part3_skel
  simp only [Prog.lift, Prog.bind_op, Prog.bind_ret, Prog.pure_eq_ret]
  iintro #HR HsR HsL HrL Hs Hl0 Hb0 HO Hk
  ihave Hs' := (slot_split X _ _) $$ Hs
  icases Hs' with ⟨Hs, Hs'⟩
  iapply (pass_right X K 0 (by decide) c _ 1 (dev_nxt (k0_dev5_eq c)) (right_slot 0 (by decide) c) (right_slot 0 (by decide) c) (recv_sem_right 1 (by decide))) $$ HR HsR HO Hs
  iintro ⟨HsR, HO⟩
  iapply (fetch X K 0 0 true 0 (by decide) c (right_slot 0 (by decide) c) (loc_sem 0 (by decide))) $$ HR Hl0 Hs' Hb0
  iintro Hl0
  iapply (arrive X K false 0 (by decide) c (by decide) (by decide) (recv_sem_left 0 (by decide))) $$ HR HrL HO
  iintro ⟨HrL, HO, Hs⟩
  iapply (left_first X K false c send_sem_left) $$ HR HsL HO
  iintro ⟨HsL, HO, Hx⟩
  iapply (runs_ret c)
  iapply Hk $$ HsR HsL HrL Hs Hl0 Hx HO

theorem part5 (v2 v5 v71 : BitVec 32) :
    records X K ⊢ iprop(recvRes true 1 c -∗ locBusy 2 0 c -∗ wbRes Wt c -∗ outRes X Wt c D -∗ Owes c (owed c 2 2)
      -∗ (∀ r, recvRes true 2 c -∗ slotRes X (org true 1 c) c fullShare -∗ locIdle 2 1 c -∗ bufAny 2 c -∗ wbRes Wt c
            -∗ outRes X Wt c (done (org false 0 c) D) -∗ Owes c (owed c 2 2) -∗ Q r)
      -∗ Runs c (onRefs (k0_part5 (F := F)) c v2 v5 v71) Q) := by
  unfold onRefs
  rw [k0_part5_eq_skeleton]; unfold k0_part5_skel
  simp only [Prog.lift, Prog.bind_op, Prog.bind_ret, Prog.pure_eq_ret]
  iintro #HR HrR Hl2 Hw Hout HO Hk
  iapply (fetched X K 2 0 false 0 (by decide) c (loc_sem 2 (by decide))) $$ HR Hl2 HO
  iintro ⟨Hl2, HO, Hb2⟩
  iapply (gemm_step X Wt 2 c (org false 0 c) (org_ne_far false 0 (by decide) c) rfl (left_rows 0 (by decide) c) (fun _ _ => rfl)) $$ Hb2 Hw Hout
  iintro ⟨Hb2, Hw, Hout⟩
  iapply (arrive X K true 1 (by decide) c (by decide) (by decide) (recv_sem_right 1 (by decide))) $$ HR HrR HO
  iintro ⟨HrR, HO, Hs⟩
  iapply (runs_ret c)
  iapply Hk $$ HrR Hs Hl2 Hb2 Hw Hout HO

/-! A hop of each direction once the local buffer's slots are in turn use: the block received is passed on and copied. -/

theorem part6 (v2 v7 : BitVec 32) :
    records X K ⊢ iprop(sendBusy true 1 c -∗ slotRes X (org true 1 c) c fullShare -∗ locIdle 1 0 c -∗ bufAny 1 c -∗ recvRes false 1 c
      -∗ Owes c (owed c 2 2)
      -∗ (∀ r, sendBusy true 2 c -∗ locBusy 1 0 c -∗ recvRes false 2 c -∗ slotRes X (org false 1 c) c fullShare -∗ Owes c (owed c 3 2) -∗ Q r)
      -∗ Runs c (onRefs (k0_part6 (F := F)) c v2 v7) Q) := by
  unfold onRefs
  rw [k0_part6_eq_skeleton]; unfold k0_part6_skel
  simp only [Prog.lift, Prog.bind_op, Prog.bind_ret, Prog.pure_eq_ret]
  iintro #HR HsR Hs Hl Hb HrL HO Hk
  iapply (left_next X K true 1 (by decide) c send_sem_right) $$ HR HsR HO
  iintro ⟨HsR, HO⟩
  ihave Hs' := (slot_split X _ _) $$ Hs
  icases Hs' with ⟨Hs, Hs'⟩
  iapply (pass_right X K 1 (by decide) c _ 2 (dev_nxt (k0_dev7_eq c)) (right_slot 1 (by decide) c) (right_slot 1 (by decide) c) (recv_sem_right 2 (by decide))) $$ HR HsR HO Hs
  iintro ⟨HsR, HO⟩
  iapply (fetch X K 1 0 true 1 (by decide) c (right_slot 1 (by decide) c) (loc_sem 1 (by decide))) $$ HR Hl Hs' Hb
  iintro Hl
  iapply (arrive X K false 1 (by decide) c (by decide) (by decide) (recv_sem_left 1 (by decide))) $$ HR HrL HO
  iintro ⟨HrL, HO, Hs⟩
  iapply (runs_ret c)
  iapply Hk $$ HsR Hl HrL Hs HO

theorem part8 (v2 v5 v160 v193 : BitVec 32) (p q : FVec F S256x512 .f32) (hv : k0_pay7 p q = gemm (X (org true 1 c)) (wb Wt c)) :
    records X K ⊢ iprop(locBusy 3 0 c -∗ wbRes Wt c -∗ outRes X Wt c D -∗ Owes c (owed c 3 3)
      -∗ (∀ r, locIdle 3 1 c -∗ bufAny 3 c -∗ wbRes Wt c -∗ outRes X Wt c (done (org false 1 c) (done (org true 1 c) D)) -∗ Owes c (owed c 3 3) -∗ Q r)
      -∗ Runs c (onRefs (k0_part8 (F := F)) c v2 v5 v160 v193 p q) Q) := by
  unfold onRefs
  rw [k0_part8_eq_skeleton]; unfold k0_part8_skel
  simp only [Prog.lift, Prog.bind_op, Prog.bind_ret, Prog.pure_eq_ret]
  iintro #HR Hl Hw Hout HO Hk
  iapply (load_out X Wt c) $$ Hout
  iintro %u Hout
  iapply (store_full X Wt c (org true 1 c) (org_ne_far true 1 (by decide) c) (right_rows 1 (by decide) c) hv) $$ Hout
  iintro Hout
  iapply (fetched X K 3 0 false 1 (by decide) c (loc_sem 3 (by decide))) $$ HR Hl HO
  iintro ⟨Hl, HO, Hb⟩
  iapply (gemm_step X Wt 3 c (org false 1 c) (org_ne_far false 1 (by decide) c) rfl (left_rows 1 (by decide) c) (fun _ _ => rfl)) $$ Hb Hw Hout
  iintro ⟨Hb, Hw, Hout⟩
  iapply (runs_ret c)
  iapply Hk $$ Hl Hb Hw Hout HO

theorem part9 (v2 v7 : BitVec 32) :
    records X K ⊢ iprop(recvRes true 2 c -∗ sendBusy true 2 c -∗ locIdle 0 1 c -∗ bufAny 0 c -∗ Owes c (owed c 3 3)
      -∗ (∀ r, recvRes true 3 c -∗ sendBusy true 3 c -∗ locBusy 0 1 c -∗ Owes c (owed c 4 3) -∗ Q r)
      -∗ Runs c (onRefs (k0_part9 (F := F)) c v2 v7) Q) := by
  unfold onRefs
  rw [k0_part9_eq_skeleton]; unfold k0_part9_skel
  simp only [Prog.lift, Prog.bind_op, Prog.bind_ret, Prog.pure_eq_ret]
  iintro #HR Hr Hs Hl Hb HO Hk
  iapply (arrive X K true 2 (by decide) c (by decide) (by decide) (recv_sem_right 2 (by decide))) $$ HR Hr HO
  iintro ⟨Hr, HO, Hx⟩
  iapply (left_next X K true 2 (by decide) c send_sem_right) $$ HR Hs HO
  iintro ⟨Hs, HO⟩
  ihave Hx' := (slot_split X _ _) $$ Hx
  icases Hx' with ⟨Hx, Hx'⟩
  iapply (pass_right X K 2 (by decide) c _ 3 (dev_nxt (k0_dev9_eq c)) (right_slot 2 (by decide) c) (right_slot 2 (by decide) c) (recv_sem_right 3 (by decide))) $$ HR Hs HO Hx
  iintro ⟨Hs, HO⟩
  iapply (fetch X K 0 1 true 2 (by decide) c (right_slot 2 (by decide) c) (loc_sem 0 (by decide))) $$ HR Hl Hx' Hb
  iintro Hl
  iapply (runs_ret c)
  iapply Hk $$ Hr Hs Hl HO

theorem part10 (v5 v222 : BitVec 32) :
    records X K ⊢ iprop(recvRes false 2 c -∗ sendBusy false 2 c -∗ locIdle 2 1 c -∗ bufAny 2 c -∗ locBusy 0 1 c -∗ Owes c (owed c 4 3)
      -∗ (∀ r, recvRes false 3 c -∗ sendBusy false 3 c -∗ locBusy 2 1 c -∗ locIdle 0 2 c -∗ bufRes 0 c (X (org true 2 c)) -∗ Owes c (owed c 4 4) -∗ Q r)
      -∗ Runs c (onRefs (k0_part10 (F := F)) c v5 v222) Q) := by
  unfold onRefs
  rw [k0_part10_eq_skeleton]; unfold k0_part10_skel
  simp only [Prog.lift, Prog.bind_op, Prog.bind_ret, Prog.pure_eq_ret]
  iintro #HR Hr Hs Hl Hb Hl0 HO Hk
  iapply (arrive X K false 2 (by decide) c (by decide) (by decide) (recv_sem_left 2 (by decide))) $$ HR Hr HO
  iintro ⟨Hr, HO, Hx⟩
  iapply (left_next X K false 2 (by decide) c send_sem_left) $$ HR Hs HO
  iintro ⟨Hs, HO⟩
  ihave Hx' := (slot_split X _ _) $$ Hx
  icases Hx' with ⟨Hx, Hx'⟩
  iapply (pass_left X K 2 (by decide) c _ 4 (dev_prv (k0_dev10_eq c)) (left_slot 2 (by decide) c) (left_slot 2 (by decide) c) (recv_sem_left 3 (by decide))) $$ HR Hs HO Hx
  iintro ⟨Hs, HO⟩
  iapply (fetch X K 2 1 false 2 (by decide) c (left_slot 2 (by decide) c) (loc_sem 2 (by decide))) $$ HR Hl Hx' Hb
  iintro Hl
  iapply (fetched X K 0 1 true 2 (by decide) c (loc_sem 0 (by decide))) $$ HR Hl0 HO
  iintro ⟨Hl0, HO, Hb0⟩
  iapply (runs_ret c)
  iapply Hk $$ Hr Hs Hl Hl0 Hb0 HO

theorem part11 (v2 v5 v251 v284 : BitVec 32) :
    records X K ⊢ iprop(bufRes 0 c (X (org true 2 c)) -∗ locBusy 2 1 c -∗ wbRes Wt c -∗ outRes X Wt c D -∗ Owes c (owed c 4 4)
      -∗ (∀ r, bufAny 0 c -∗ locIdle 2 2 c -∗ bufAny 2 c -∗ wbRes Wt c -∗ outRes X Wt c (done (org false 2 c) (done (org true 2 c) D)) -∗ Owes c (owed c 4 4) -∗ Q r)
      -∗ Runs c (onRefs (k0_part11 (F := F)) c v2 v5 v251 v284) Q) := by
  unfold onRefs
  rw [k0_part11_eq_skeleton]; unfold k0_part11_skel
  simp only [Prog.lift, Prog.bind_op, Prog.bind_ret, Prog.pure_eq_ret]
  iintro #HR Hb0 Hl2 Hw Hout HO Hk
  iapply (gemm_step X Wt 0 c (org true 2 c) (org_ne_far true 2 (by decide) c) rfl (right_rows 2 (by decide) c) (fun _ _ => rfl)) $$ Hb0 Hw Hout
  iintro ⟨Hb0, Hw, Hout⟩
  iapply (fetched X K 2 1 false 2 (by decide) c (loc_sem 2 (by decide))) $$ HR Hl2 HO
  iintro ⟨Hl2, HO, Hb2⟩
  iapply (gemm_step X Wt 2 c (org false 2 c) (org_ne_far false 2 (by decide) c) rfl (left_rows 2 (by decide) c) (fun _ _ => rfl)) $$ Hb2 Hw Hout
  iintro ⟨Hb2, Hw, Hout⟩
  iapply (runs_ret c)
  iapply Hk $$ Hb0 Hl2 Hb2 Hw Hout HO

theorem part15 (v5 v7 v401 c4 : BitVec 32) :
    records X K ⊢ iprop(recvRes true 4 c -∗ sendBusy true 4 c -∗ Owes c (owed c 5 5)
      -∗ (∀ r, recvRes true 5 c -∗ sendBusy true 5 c -∗ slotRes X (org true 4 c) c fullShare.right -∗ Owes c (owed c 6 5) -∗ Q r)
      -∗ Runs c (onRefs (k0_part15 (F := F)) c v5 v7 v401 c4) Q) := by
  unfold onRefs
  rw [k0_part15_eq_skeleton]; unfold k0_part15_skel
  simp only [Prog.lift, Prog.bind_op, Prog.bind_ret, Prog.pure_eq_ret]
  iintro #HR Hr Hs HO Hk
  iapply (arrive X K true 4 (by decide) c (by decide) (by decide) (recv_sem_right 4 (by decide))) $$ HR Hr HO
  iintro ⟨Hr, HO, Hx⟩
  iapply (left_next X K true 4 (by decide) c send_sem_right) $$ HR Hs HO
  iintro ⟨Hs, HO⟩
  ihave Hx' := (slot_split X _ _) $$ Hx
  icases Hx' with ⟨Hx, Hx'⟩
  iapply (pass_right X K 4 (by decide) c _ 5 (dev_nxt (k0_dev13_eq c)) (right_slot 4 (by decide) c) (right_slot 4 (by decide) c) (recv_sem_right 5 (by decide))) $$ HR Hs HO Hx
  iintro ⟨Hs, HO⟩
  iapply (runs_ret c)
  iapply Hk $$ Hr Hs Hx' HO

theorem part16 (v2 v5 v7 : BitVec 32) :
    records X K ⊢ iprop(slotRes X (org true 4 c) c fullShare.right -∗ locIdle 0 2 c -∗ bufAny 0 c -∗ recvRes false 4 c -∗ sendBusy false 4 c
      -∗ Owes c (owed c 6 5)
      -∗ (∀ r, locBusy 0 2 c -∗ recvRes false 5 c -∗ sendBusy false 5 c -∗ slotRes X (org false 4 c) c fullShare.right -∗ Owes c (owed c 6 6) -∗ Q r)
      -∗ Runs c (onRefs (k0_part16 (F := F)) c v2 v5 v7) Q) := by
  unfold onRefs
  rw [k0_part16_eq_skeleton]; unfold k0_part16_skel
  simp only [Prog.lift, Prog.bind_op, Prog.bind_ret, Prog.pure_eq_ret]
  iintro #HR Hy Hl Hb Hr Hs HO Hk
  iapply (fetch X K 0 2 true 4 (by decide) c (right_slot 4 (by decide) c) (loc_sem 0 (by decide))) $$ HR Hl Hy Hb
  iintro Hl
  iapply (arrive X K false 4 (by decide) c (by decide) (by decide) (recv_sem_left 4 (by decide))) $$ HR Hr HO
  iintro ⟨Hr, HO, Hx⟩
  iapply (left_next X K false 4 (by decide) c send_sem_left) $$ HR Hs HO
  iintro ⟨Hs, HO⟩
  ihave Hx' := (slot_split X _ _) $$ Hx
  icases Hx' with ⟨Hx, Hx'⟩
  iapply (pass_left X K 4 (by decide) c _ 6 (dev_prv (k0_dev14_eq c)) (left_slot 4 (by decide) c) (left_slot 4 (by decide) c) (recv_sem_left 5 (by decide))) $$ HR Hs HO Hx
  iintro ⟨Hs, HO⟩
  iapply (runs_ret c)
  iapply Hk $$ Hl Hr Hs Hx' HO

theorem part18 (v2 v5 v7 v482 : BitVec 32) (p : FVec F S256x4096 .bf16) (w : Vec F S4096x512 .bf16) (z : FVec F S256x512 .f32)
    (hv : k0_pay15 p w z = gemm (X (org false 4 c)) (wb Wt c)) :
    records X K ⊢ iprop(outRes X Wt c D -∗ recvRes true 5 c -∗ sendBusy true 5 c -∗ Owes c (owed c 6 6)
      -∗ (∀ r, outRes X Wt c (done (org false 4 c) D) -∗ recvRes true 6 c -∗ sendBusy true 6 c -∗ slotRes X (org true 5 c) c fullShare.right
            -∗ Owes c (owed c 7 6) -∗ Q r)
      -∗ Runs c (onRefs (k0_part18 (F := F)) c v2 v5 v7 v482 p w z) Q) := by
  unfold onRefs
  rw [k0_part18_eq_skeleton]; unfold k0_part18_skel
  simp only [Prog.lift, Prog.bind_op, Prog.bind_ret, Prog.pure_eq_ret]
  iintro #HR Hout Hr Hs HO Hk
  iapply (load_out X Wt c) $$ Hout
  iintro %u Hout
  iapply (store_full X Wt c (org false 4 c) (org_ne_far false 4 (by decide) c) (left_rows 4 (by decide) c) hv) $$ Hout
  iintro Hout
  iapply (arrive X K true 5 (by decide) c (by decide) (by decide) (recv_sem_right 5 (by decide))) $$ HR Hr HO
  iintro ⟨Hr, HO, Hx⟩
  iapply (left_next X K true 5 (by decide) c send_sem_right) $$ HR Hs HO
  iintro ⟨Hs, HO⟩
  ihave Hx' := (slot_split X _ _) $$ Hx
  icases Hx' with ⟨Hx, Hx'⟩
  iapply (pass_right X K 5 (by decide) c _ 6 (dev_nxt (k0_dev15_eq c)) (right_slot 5 (by decide) c) (right_slot 5 (by decide) c) (recv_sem_right 6 (by decide))) $$ HR Hs HO Hx
  iintro ⟨Hs, HO⟩
  iapply (runs_ret c)
  iapply Hk $$ Hout Hr Hs Hx' HO

theorem part19 (v2 v5 v7 : BitVec 32) :
    records X K ⊢ iprop(slotRes X (org true 5 c) c fullShare.right -∗ locIdle 1 2 c -∗ bufAny 1 c -∗ recvRes false 5 c -∗ sendBusy false 5 c
      -∗ Owes c (owed c 7 6)
      -∗ (∀ r, locBusy 1 2 c -∗ recvRes false 6 c -∗ sendBusy false 6 c -∗ slotRes X (org false 5 c) c fullShare.right -∗ Owes c (owed c 7 7) -∗ Q r)
      -∗ Runs c (onRefs (k0_part19 (F := F)) c v2 v5 v7) Q) := by
  unfold onRefs
  rw [k0_part19_eq_skeleton]; unfold k0_part19_skel
  simp only [Prog.lift, Prog.bind_op, Prog.bind_ret, Prog.pure_eq_ret]
  iintro #HR Hy Hl Hb Hr Hs HO Hk
  iapply (fetch X K 1 2 true 5 (by decide) c (right_slot 5 (by decide) c) (loc_sem 1 (by decide))) $$ HR Hl Hy Hb
  iintro Hl
  iapply (arrive X K false 5 (by decide) c (by decide) (by decide) (recv_sem_left 5 (by decide))) $$ HR Hr HO
  iintro ⟨Hr, HO, Hx⟩
  iapply (left_next X K false 5 (by decide) c send_sem_left) $$ HR Hs HO
  iintro ⟨Hs, HO⟩
  ihave Hx' := (slot_split X _ _) $$ Hx
  icases Hx' with ⟨Hx, Hx'⟩
  iapply (pass_left X K 5 (by decide) c _ 7 (dev_prv (k0_dev16_eq c)) (left_slot 5 (by decide) c) (left_slot 5 (by decide) c) (recv_sem_left 6 (by decide))) $$ HR Hs HO Hx
  iintro ⟨Hs, HO⟩
  iapply (runs_ret c)
  iapply Hk $$ Hl Hr Hs Hx' HO

theorem part20 (v495 v524 : BitVec 32) :
    records X K ⊢ iprop(slotRes X (org false 5 c) c fullShare.right -∗ locIdle 3 2 c -∗ bufAny 3 c -∗ locBusy 1 2 c -∗ wbRes Wt c -∗ outRes X Wt c D
      -∗ Owes c (owed c 7 7)
      -∗ (∀ r, locIdle 3 3 c -∗ bufRes 3 c (X (org false 5 c)) -∗ locIdle 1 3 c -∗ bufAny 1 c -∗ wbRes Wt c -∗ outRes X Wt c (done (org true 5 c) D)
            -∗ Owes c (owed c 7 7) -∗ Q r)
      -∗ Runs c (onRefs (k0_part20 (F := F)) c v495 v524) Q) := by
  unfold onRefs
  rw [k0_part20_eq_skeleton]; unfold k0_part20_skel
  simp only [Prog.lift, Prog.bind_op, Prog.bind_ret, Prog.pure_eq_ret]
  iintro #HR Hy Hl3 Hb3 Hl1 Hw Hout HO Hk
  iapply (fetch X K 3 2 false 5 (by decide) c (left_slot 5 (by decide) c) (loc_sem 3 (by decide))) $$ HR Hl3 Hy Hb3
  iintro Hl3
  iapply (fetched X K 1 2 true 5 (by decide) c (loc_sem 1 (by decide))) $$ HR Hl1 HO
  iintro ⟨Hl1, HO, Hb1⟩
  iapply (gemm_step X Wt 1 c (org true 5 c) (org_ne_far true 5 (by decide) c) rfl (right_rows 5 (by decide) c) (fun _ _ => rfl)) $$ Hb1 Hw Hout
  iintro ⟨Hb1, Hw, Hout⟩
  iapply (fetched X K 3 2 false 5 (by decide) c (loc_sem 3 (by decide))) $$ HR Hl3 HO
  iintro ⟨Hl3, HO, Hb3⟩
  iapply (runs_ret c)
  iapply Hk $$ Hl3 Hb3 Hl1 Hb1 Hw Hout HO

theorem part21 (v2 v5 v7 v573 : BitVec 32) :
    records X K ⊢ iprop(bufRes 3 c (X (org false 5 c)) -∗ wbRes Wt c -∗ outRes X Wt c D -∗ recvRes true 6 c -∗ sendBusy true 6 c -∗ Owes c (owed c 7 7)
      -∗ (∀ r, bufAny 3 c -∗ wbRes Wt c -∗ outRes X Wt c (done (org false 5 c) D) -∗ recvRes true 7 c -∗ sendIdle true 7 c
            -∗ slotRes X (org true 6 c) c fullShare -∗ Owes c (owed c 7 7) -∗ Q r)
      -∗ Runs c (onRefs (k0_part21 (F := F)) c v2 v5 v7 v573) Q) := by
  unfold onRefs
  rw [k0_part21_eq_skeleton]; unfold k0_part21_skel
  simp only [Prog.lift, Prog.bind_op, Prog.bind_ret, Prog.pure_eq_ret]
  iintro #HR Hb Hw Hout Hr Hs HO Hk
  iapply (gemm_step X Wt 3 c (org false 5 c) (org_ne_far false 5 (by decide) c) rfl (left_rows 5 (by decide) c) (fun _ _ => rfl)) $$ Hb Hw Hout
  iintro ⟨Hb, Hw, Hout⟩
  iapply (arrive X K true 6 (by decide) c (by decide) (by decide) (recv_sem_right 6 (by decide))) $$ HR Hr HO
  iintro ⟨Hr, HO, Hx⟩
  iapply (left_next X K true 6 (by decide) c send_sem_right) $$ HR Hs HO
  iintro ⟨Hs, HO⟩
  iapply (runs_ret c)
  iapply Hk $$ Hb Hw Hout Hr Hs Hx HO

/-! The last hop moves half a block each way. -/

theorem part22 (v2 v5 v7 : BitVec 32) :
    records X K ⊢ iprop(sendIdle true 7 c -∗ slotRes X (org true 6 c) c fullShare -∗ locIdle 0 3 c -∗ bufAny 0 c -∗ recvRes false 6 c
      -∗ sendBusy false 6 c -∗ Owes c (owed c 7 7)
      -∗ (∀ r, sendBusy true 7 c -∗ locBusy 0 3 c -∗ recvRes false 7 c -∗ sendIdle false 7 c -∗ slotRes X (org false 6 c) c fullShare
            -∗ Owes c (owed c 8 7) -∗ Q r)
      -∗ Runs c (onRefs (k0_part22 (F := F)) c v2 v5 v7) Q) := by
  unfold onRefs
  rw [k0_part22_eq_skeleton]; unfold k0_part22_skel
  simp only [Prog.lift, Prog.bind_op, Prog.bind_ret, Prog.pure_eq_ret]
  iintro #HR HsR Hx Hl Hb Hr HsL HO Hk
  ihave Hx' := (slot_split X _ _) $$ Hx
  icases Hx' with ⟨Hx, Hx'⟩
  iapply (pass_half_right X K c _ 7 (dev_nxt (k0_dev17_eq c)) (right_half c) (right_half c) (recv_sem_right 7 (by decide))) $$ HR HsR HO Hx
  iintro ⟨HsR, HO⟩
  iapply (fetch X K 0 3 true 6 (by decide) c (right_slot 6 (by decide) c) (loc_sem 0 (by decide))) $$ HR Hl Hx' Hb
  iintro Hl
  iapply (arrive X K false 6 (by decide) c (by decide) (by decide) (recv_sem_left 6 (by decide))) $$ HR Hr HO
  iintro ⟨Hr, HO, Hy⟩
  iapply (left_next X K false 6 (by decide) c send_sem_left) $$ HR HsL HO
  iintro ⟨HsL, HO⟩
  iapply (runs_ret c)
  iapply Hk $$ HsR Hl Hr HsL Hy HO

theorem part24 (v2 v5 v615 : BitVec 32) :
    records X K ⊢ iprop(locBusy 2 3 c -∗ wbRes Wt c -∗ outRes X Wt c D -∗ recvRes true 7 c -∗ locIdle 0 4 c -∗ bufAny 0 c -∗ Owes c (owed c 8 8)
      -∗ (∀ r, locIdle 2 4 c -∗ bufAny 2 c -∗ wbRes Wt c -∗ outRes X Wt c (done (org false 6 c) D) -∗ recvRes true 8 c -∗ locBusy 0 4 c
            -∗ bufRest 0 c -∗ Owes c (owed c 8 8) -∗ Q r)
      -∗ Runs c (onRefs (k0_part24 (F := F)) c v2 v5 v615) Q) := by
  unfold onRefs
  rw [k0_part24_eq_skeleton]; unfold k0_part24_skel
  simp only [Prog.lift, Prog.bind_op, Prog.bind_ret, Prog.pure_eq_ret]
  iintro #HR Hl2 Hw Hout Hr Hl0 Hb0 HO Hk
  iapply (fetched X K 2 3 false 6 (by decide) c (loc_sem 2 (by decide))) $$ HR Hl2 HO
  iintro ⟨Hl2, HO, Hb2⟩
  iapply (gemm_step X Wt 2 c (org false 6 c) (org_ne_far false 6 (by decide) c) rfl (left_rows 6 (by decide) c) (fun _ _ => rfl)) $$ Hb2 Hw Hout
  iintro ⟨Hb2, Hw, Hout⟩
  iapply (arrive_half X K true c (by decide) (by decide) (recv_sem_right 7 (by decide))) $$ HR Hr HO
  iintro ⟨Hr, HO, Hx⟩
  iapply (fetch_half X K 0 4 true (by decide) c (far_top c) (loc_sem 0 (by decide))) $$ HR Hl0 Hx Hb0
  iintro ⟨Hl0, Hrest⟩
  iapply (runs_ret c)
  iapply Hk $$ Hl2 Hb2 Hw Hout Hr Hl0 Hrest HO

end

section
variable {Q : PUnit → sProp (MT nD τ sig Unit (Elt F) ℕ UU ℕ)} (c : Dev nD) {D : List ℕ}

theorem part4 (v44 : BitVec 32) :
    records X K ⊢ iprop(sendIdle false 1 c -∗ slotRes X (org false 0 c) c fullShare -∗ locBusy 0 0 c -∗ locIdle 2 0 c -∗ bufAny 2 c
      -∗ wbRes Wt c -∗ outRes X Wt c D -∗ Owes c (owed c 2 1)
      -∗ (sendBusy false 1 c -∗ locIdle 0 1 c -∗ bufAny 0 c -∗ locBusy 2 0 c -∗ wbRes Wt c
            -∗ outRes X Wt c (done (org true 0 c) D) -∗ Owes c (owed c 2 2) -∗ Q ⟨⟩)
      -∗ Runs c (onRefs (k0_part4 (F := F)) c v44) Q) := by
  unfold onRefs
  rw [k0_part4_eq_skeleton]; unfold k0_part4_skel
  simp only [Prog.lift, Prog.bind_op, Prog.bind_ret, Prog.pure_eq_ret]
  iintro #HR HsL Hs Hl0 Hl2 Hb2 Hw Hout HO Hk
  ihave Hs' := (slot_split X _ _) $$ Hs
  icases Hs' with ⟨Hs, Hs'⟩
  iapply (pass_left X K 0 (by decide) c _ 2 (dev_prv (k0_dev6_eq c)) (left_slot 0 (by decide) c) (left_slot 0 (by decide) c) (recv_sem_left 1 (by decide))) $$ HR HsL HO Hs
  iintro ⟨HsL, HO⟩
  iapply (fetch X K 2 0 false 0 (by decide) c (left_slot 0 (by decide) c) (loc_sem 2 (by decide))) $$ HR Hl2 Hs' Hb2
  iintro Hl2
  iapply (fetched X K 0 0 true 0 (by decide) c (loc_sem 0 (by decide))) $$ HR Hl0 HO
  iintro ⟨Hl0, HO, Hb0⟩
  iapply (gemm_step X Wt 0 c (org true 0 c) (org_ne_far true 0 (by decide) c) rfl (right_rows 0 (by decide) c) (fun _ _ => rfl)) $$ Hb0 Hw Hout
  iintro ⟨Hb0, Hw, Hout⟩
  iapply (runs_ret c)
  iapply Hk $$ HsL Hl0 Hb0 Hl2 Hw Hout HO

theorem part13 (v5 v343 : BitVec 32) :
    records X K ⊢ iprop(recvRes false 3 c -∗ sendBusy false 3 c -∗ locIdle 3 1 c -∗ bufAny 3 c -∗ Owes c (owed c 5 4)
      -∗ (recvRes false 4 c -∗ sendBusy false 4 c -∗ locBusy 3 1 c -∗ Owes c (owed c 5 5) -∗ Q ⟨⟩)
      -∗ Runs c (onRefs (k0_part13 (F := F)) c v5 v343) Q) := by
  unfold onRefs
  rw [k0_part13_eq_skeleton]; unfold k0_part13_skel
  simp only [Prog.lift, Prog.bind_op, Prog.bind_ret, Prog.pure_eq_ret]
  iintro #HR Hr Hs Hl Hb HO Hk
  iapply (arrive X K false 3 (by decide) c (by decide) (by decide) (recv_sem_left 3 (by decide))) $$ HR Hr HO
  iintro ⟨Hr, HO, Hx⟩
  iapply (left_next X K false 3 (by decide) c send_sem_left) $$ HR Hs HO
  iintro ⟨Hs, HO⟩
  ihave Hx' := (slot_split X _ _) $$ Hx
  icases Hx' with ⟨Hx, Hx'⟩
  iapply (pass_left X K 3 (by decide) c _ 5 (dev_prv (k0_dev12_eq c)) (left_slot 3 (by decide) c) (left_slot 3 (by decide) c) (recv_sem_left 4 (by decide))) $$ HR Hs HO Hx
  iintro ⟨Hs, HO⟩
  iapply (fetch X K 3 1 false 3 (by decide) c (left_slot 3 (by decide) c) (loc_sem 3 (by decide))) $$ HR Hl Hx' Hb
  iintro Hl
  iapply (runs_ret c)
  iapply Hk $$ Hr Hs Hl HO

theorem part23 (v586 : BitVec 32) :
    records X K ⊢ iprop(sendIdle false 7 c -∗ slotRes X (org false 6 c) c fullShare -∗ locIdle 2 3 c -∗ bufAny 2 c -∗ locBusy 0 3 c -∗ wbRes Wt c
      -∗ outRes X Wt c D -∗ Owes c (owed c 8 7)
      -∗ (sendBusy false 7 c -∗ locBusy 2 3 c -∗ locIdle 0 4 c -∗ bufAny 0 c -∗ wbRes Wt c -∗ outRes X Wt c (done (org true 6 c) D)
            -∗ Owes c (owed c 8 8) -∗ Q ⟨⟩)
      -∗ Runs c (onRefs (k0_part23 (F := F)) c v586) Q) := by
  unfold onRefs
  rw [k0_part23_eq_skeleton]; unfold k0_part23_skel
  simp only [Prog.lift, Prog.bind_op, Prog.bind_ret, Prog.pure_eq_ret]
  iintro #HR Hs Hx Hl2 Hb2 Hl0 Hw Hout HO Hk
  ihave Hx' := (slot_split X _ _) $$ Hx
  icases Hx' with ⟨Hx, Hx'⟩
  iapply (pass_half_left X K c _ 8 (dev_prv (k0_dev18_eq c)) (left_half c) (left_half c) (recv_sem_left 7 (by decide))) $$ HR Hs HO Hx
  iintro ⟨Hs, HO⟩
  iapply (fetch X K 2 3 false 6 (by decide) c (left_slot 6 (by decide) c) (loc_sem 2 (by decide))) $$ HR Hl2 Hx' Hb2
  iintro Hl2
  iapply (fetched X K 0 3 true 6 (by decide) c (loc_sem 0 (by decide))) $$ HR Hl0 HO
  iintro ⟨Hl0, HO, Hb0⟩
  iapply (gemm_step X Wt 0 c (org true 6 c) (org_ne_far true 6 (by decide) c) rfl (right_rows 6 (by decide) c) (fun _ _ => rfl)) $$ Hb0 Hw Hout
  iintro ⟨Hb0, Hw, Hout⟩
  iapply (runs_ret c)
  iapply Hk $$ Hs Hl2 Hl0 Hb0 Hw Hout HO

theorem part25 (v7 v675 : BitVec 32) :
    records X K ⊢ iprop(locBusy 0 4 c -∗ wbRes Wt c -∗ outRes X Wt c D -∗ recvRes false 7 c -∗ Owes c (owed c 8 8)
      -∗ (locIdle 0 5 c -∗ bufHalfRes 0 c (xHalf X true (org true 7 c)) -∗ wbRes Wt c -∗ outRes X Wt c ((2 * (org true 7 c).val + hrow true / 128) :: D)
            -∗ recvRes false 8 c -∗ halfRes X false (org true 7 c) c fullShare -∗ Owes c (owed c 8 8) -∗ Q ⟨⟩)
      -∗ Runs c (onRefs (k0_part25 (F := F)) c v7 v675) Q) := by
  unfold onRefs
  rw [k0_part25_eq_skeleton]; unfold k0_part25_skel
  simp only [Prog.lift, Prog.bind_op, Prog.bind_ret, Prog.pure_eq_ret]
  iintro #HR Hl Hw Hout Hr HO Hk
  iapply (fetched_half X K 0 4 true (by decide) c (loc_sem 0 (by decide))) $$ HR Hl HO
  iintro ⟨Hl, HO, Hb⟩
  iapply (gemm_half_step X Wt 0 c true rfl ((k0_off10_eq c).trans (by revert c; decide)) (fun _ _ => rfl)) $$ Hb Hw Hout
  iintro ⟨Hb, Hw, Hout⟩
  iapply (arrive_half X K false c (by decide) (by decide) (recv_sem_left 7 (by decide))) $$ HR Hr HO
  iintro ⟨Hr, HO, Hx⟩
  iapply (runs_ret c)
  iapply Hk $$ Hl Hb Hw Hout Hr Hx HO

end

section
variable {Q : (Σ' (v193 : BitVec 32) (v198 : FVec F S256x512 .f32), FVec F S256x512 .f32) → sProp (MT nD τ sig Unit (Elt F) ℕ UU ℕ)} (c : Dev nD)

theorem part7 (v5 v131 : BitVec 32) :
    records X K ⊢ iprop(sendBusy false 1 c -∗ slotRes X (org false 1 c) c fullShare -∗ locIdle 3 0 c -∗ bufAny 3 c -∗ locBusy 1 0 c -∗ wbRes Wt c
      -∗ Owes c (owed c 3 2)
      -∗ (∀ v p q, ⌜k0_pay7 p q = gemm (X (org true 1 c)) (wb Wt c)⌝ -∗ sendBusy false 2 c -∗ locBusy 3 0 c -∗ locIdle 1 1 c -∗ bufAny 1 c
            -∗ wbRes Wt c -∗ Owes c (owed c 3 3) -∗ Q ⟨v, p, q⟩)
      -∗ Runs c (onRefs (k0_part7 (F := F)) c v5 v131) Q) := by
  unfold onRefs
  rw [k0_part7_eq_skeleton]; unfold k0_part7_skel
  simp only [Prog.lift, Prog.bind_op, Prog.bind_ret, Prog.pure_eq_ret]
  iintro #HR Hs Hx Hl3 Hb3 Hl1 Hw HO Hk
  iapply (left_next X K false 1 (by decide) c send_sem_left) $$ HR Hs HO
  iintro ⟨Hs, HO⟩
  ihave Hx' := (slot_split X _ _) $$ Hx
  icases Hx' with ⟨Hx, Hx'⟩
  iapply (pass_left X K 1 (by decide) c _ 3 (dev_prv (k0_dev8_eq c)) (left_slot 1 (by decide) c) (left_slot 1 (by decide) c) (recv_sem_left 2 (by decide))) $$ HR Hs HO Hx
  iintro ⟨Hs, HO⟩
  iapply (fetch X K 3 0 false 1 (by decide) c (left_slot 1 (by decide) c) (loc_sem 3 (by decide))) $$ HR Hl3 Hx' Hb3
  iintro Hl3
  iapply (fetched X K 1 0 true 1 (by decide) c (loc_sem 1 (by decide))) $$ HR Hl1 HO
  iintro ⟨Hl1, HO, Hb1⟩
  iapply (load_slot (F := F) 1 c rfl) $$ Hb1
  iintro %v %hv Hb1
  iapply (load_wb Wt c) $$ Hw
  iintro Hw
  iapply (runs_ret c)
  ihave Hb1 := (bufRes_any 1 c (X (org true 1 c))) $$ Hb1
  have e : k0_pay7 (k0_pay5 v (wb Wt c)) (k0_pay6 v (wb Wt c)) = gemm (X (org true 1 c)) (wb Wt c) := by rw [← hv]; rfl
  iapply Hk $$ %_ %_ %_ %e Hs Hl3 Hl1 Hb1 Hw HO

end

section
variable {Q : (Σ' (v342 : BitVec 32), BitVec 32) → sProp (MT nD τ sig Unit (Elt F) ℕ UU ℕ)} (c : Dev nD) {D : List ℕ}

theorem part12 (v2 v7 : BitVec 32) :
    records X K ⊢ iprop(recvRes true 3 c -∗ sendBusy true 3 c -∗ locIdle 1 1 c -∗ bufAny 1 c -∗ Owes c (owed c 4 4)
      -∗ (∀ a b, recvRes true 4 c -∗ sendBusy true 4 c -∗ locBusy 1 1 c -∗ Owes c (owed c 5 4) -∗ Q ⟨a, b⟩)
      -∗ Runs c (onRefs (k0_part12 (F := F)) c v2 v7) Q) := by
  unfold onRefs
  rw [k0_part12_eq_skeleton]; unfold k0_part12_skel
  simp only [Prog.lift, Prog.bind_op, Prog.bind_ret, Prog.pure_eq_ret]
  iintro #HR Hr Hs Hl Hb HO Hk
  iapply (arrive X K true 3 (by decide) c (by decide) (by decide) (recv_sem_right 3 (by decide))) $$ HR Hr HO
  iintro ⟨Hr, HO, Hx⟩
  iapply (left_next X K true 3 (by decide) c send_sem_right) $$ HR Hs HO
  iintro ⟨Hs, HO⟩
  ihave Hx' := (slot_split X _ _) $$ Hx
  icases Hx' with ⟨Hx, Hx'⟩
  iapply (pass_right X K 3 (by decide) c _ 4 (dev_nxt (k0_dev11_eq c)) (right_slot 3 (by decide) c) (right_slot 3 (by decide) c) (recv_sem_right 4 (by decide))) $$ HR Hs HO Hx
  iintro ⟨Hs, HO⟩
  iapply (fetch X K 1 1 true 3 (by decide) c (right_slot 3 (by decide) c) (loc_sem 1 (by decide))) $$ HR Hl Hx' Hb
  iintro Hl
  iapply (runs_ret c)
  iapply Hk $$ %_ %_ Hr Hs Hl HO

theorem part14 (v2 v313 v342 : BitVec 32) :
    records X K ⊢ iprop(locBusy 1 1 c -∗ locBusy 3 1 c -∗ wbRes Wt c -∗ outRes X Wt c D -∗ Owes c (owed c 5 5)
      -∗ (∀ a b, locIdle 1 2 c -∗ bufAny 1 c -∗ locIdle 3 2 c -∗ bufAny 3 c -∗ wbRes Wt c
            -∗ outRes X Wt c (done (org false 3 c) (done (org true 3 c) D)) -∗ Owes c (owed c 5 5) -∗ Q ⟨a, b⟩)
      -∗ Runs c (onRefs (k0_part14 (F := F)) c v2 v313 v342) Q) := by
  unfold onRefs
  rw [k0_part14_eq_skeleton]; unfold k0_part14_skel
  simp only [Prog.lift, Prog.bind_op, Prog.bind_ret, Prog.pure_eq_ret]
  iintro #HR Hl1 Hl3 Hw Hout HO Hk
  iapply (fetched X K 1 1 true 3 (by decide) c (loc_sem 1 (by decide))) $$ HR Hl1 HO
  iintro ⟨Hl1, HO, Hb1⟩
  iapply (gemm_step X Wt 1 c (org true 3 c) (org_ne_far true 3 (by decide) c) rfl (right_rows 3 (by decide) c) (fun _ _ => rfl)) $$ Hb1 Hw Hout
  iintro ⟨Hb1, Hw, Hout⟩
  iapply (fetched X K 3 1 false 3 (by decide) c (loc_sem 3 (by decide))) $$ HR Hl3 HO
  iintro ⟨Hl3, HO, Hb3⟩
  iapply (gemm_step X Wt 3 c (org false 3 c) (org_ne_far false 3 (by decide) c) rfl (left_rows 3 (by decide) c) (fun _ _ => rfl)) $$ Hb3 Hw Hout
  iintro ⟨Hb3, Hw, Hout⟩
  iapply (runs_ret c)
  iapply Hk $$ %_ %_ Hl1 Hb1 Hl3 Hb3 Hw Hout HO

end

section
variable {Q : (Σ' (v482 : BitVec 32) (v485 : FVec F S256x4096 .bf16) (v486 : Vec F S4096x512 .bf16), FVec F S256x512 .f32) → sProp (MT nD τ sig Unit (Elt F) ℕ UU ℕ)}
  (c : Dev nD) {D : List ℕ}

theorem part17 (v404 v433 : BitVec 32) :
    records X K ⊢ iprop(slotRes X (org false 4 c) c fullShare.right -∗ locIdle 2 2 c -∗ bufAny 2 c -∗ locBusy 0 2 c -∗ wbRes Wt c -∗ outRes X Wt c D
      -∗ Owes c (owed c 6 6)
      -∗ (∀ v p w z, ⌜k0_pay15 p w z = gemm (X (org false 4 c)) (wb Wt c)⌝ -∗ locIdle 2 3 c -∗ bufAny 2 c -∗ locIdle 0 3 c -∗ bufAny 0 c -∗ wbRes Wt c
            -∗ outRes X Wt c (done (org true 4 c) D) -∗ Owes c (owed c 6 6) -∗ Q ⟨v, p, w, z⟩)
      -∗ Runs c (onRefs (k0_part17 (F := F)) c v404 v433) Q) := by
  unfold onRefs
  rw [k0_part17_eq_skeleton]; unfold k0_part17_skel
  simp only [Prog.lift, Prog.bind_op, Prog.bind_ret, Prog.pure_eq_ret]
  iintro #HR Hy Hl2 Hb2 Hl0 Hw Hout HO Hk
  iapply (fetch X K 2 2 false 4 (by decide) c (left_slot 4 (by decide) c) (loc_sem 2 (by decide))) $$ HR Hl2 Hy Hb2
  iintro Hl2
  iapply (fetched X K 0 2 true 4 (by decide) c (loc_sem 0 (by decide))) $$ HR Hl0 HO
  iintro ⟨Hl0, HO, Hb0⟩
  iapply (gemm_step X Wt 0 c (org true 4 c) (org_ne_far true 4 (by decide) c) rfl (right_rows 4 (by decide) c) (fun _ _ => rfl)) $$ Hb0 Hw Hout
  iintro ⟨Hb0, Hw, Hout⟩
  iapply (fetched X K 2 2 false 4 (by decide) c (loc_sem 2 (by decide))) $$ HR Hl2 HO
  iintro ⟨Hl2, HO, Hb2⟩
  iapply (load_slot (F := F) 2 c rfl) $$ Hb2
  iintro %v %hv Hb2
  iapply (load_wb Wt c) $$ Hw
  iintro Hw
  iapply (runs_ret c)
  ihave Hb2 := (bufRes_any 2 c (X (org false 4 c))) $$ Hb2
  have e : k0_pay15 (k0_pay14 v) (wb Wt c) (constant S256x512 .f32 0x00000000#32) = gemm (X (org false 4 c)) (wb Wt c) := by rw [← hv]; rfl
  iapply Hk $$ %_ %_ %_ %_ %e Hl2 Hb2 Hl0 Hb0 Hw Hout HO

end

end Cert.RingProof
-- ==== Proof.Opening.lean ====
/-
The ring all-gather product — the first two parts of the kernel's body: the weights rounded, the barrier with both
neighbours, the device's own block sent both ways and multiplied.
-/
module

public import proofs.«01_k».proof.Proof.Parts

@[expose] public section

set_option backward.proofsInPublic true
set_option maxRecDepth 8000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (Wt : Dev nD → Vec F S4096x512 .f32) (K : Dev nD × CellKind → ℕ)

section
variable {α : Type} {Q : α → sProp (MT nD τ sig Unit (Elt F) ℕ UU ℕ)}

/-! ## The barrier -/

/-- A unit to the barrier of the neighbour `t`, whose duty `d` it is, with the slots of this device that `t` fills. -/
theorem bar_signal (c t n : Dev nD) (d : Bool) (hn : n = t) {O₀ : CellTallies nD τ sig Unit} (O : CellTallies nD τ sig Unit)
    (hO : O₀ = O + tallyAt (cell kBar t) () 1) {k : PUnit → Prog (TpuEff nD τ sig (Elt F) Λ₀ .tc) α} :
    records X K ⊢ iprop(Owes (F := F) c O₀ -∗ dutyTok ER (cell kBar t) 0 d -∗ barPay (F := F) d t
      -∗ (Owes (F := F) c O -∗ Runs c (k ⟨⟩) Q)
      -∗ Runs c (.op (.semSignal (n : Thread nD τ) barS (1#32).toNat) k) Q) := by
  subst hn hO
  unfold Owes
  iintro #HR ⟨%W, HO⟩ Ht Hp Hk
  iapply (Rounds.wp_signal 𝒱₀ ER (ringRd X) (c : Thread nD τ) none (dst := (n : Thread nD τ)) (κ := K (n, kBar))
      (d := d) (mem_duties_bar X n d) ((amount_cell X kBar n 0 d).trans (by decide)) () O rfl)
    $$ [HO Ht Hp]
  · isplitr; · iapply (records_inv X K kBar n); iexact HR
    isplitl [HO]; · iexact HO
    isplitl [Ht]; · iexact Ht
    isplitl [Hp]
    · iapply (Entails.of_eq (show barPay (F := F) d n = (ringRd X).payload ((n : Thread nD τ), SemLoc.reg barS) 0 d from (payload_cell X kBar n 0 d).symm)); iexact Hp
    · iapply (records_reached X K kBar n); iexact HR
  iintro HO
  iapply Hk
  iexists _; iexact HO

/-- The wait for both neighbours: their slots come with it, and the barrier is closed. -/
theorem bar_wait (c : Dev nD) {k : PUnit → Prog (TpuEff nD τ sig (Elt F) Λ₀ .tc) α} :
    records X K ⊢ iprop(atPos ER (cell kBar c) 0 ∅ 0 -∗ cred (tallyAt (cell kBar c) () 2) -∗ Owes (F := F) c (owed c 0 0)
      -∗ ((semVal (cell kBar c) 0 ∗ Owes (F := F) c (owed c 0 0) ∗ barPay (F := F) true c ∗ barPay (F := F) false c) -∗ Runs c (k ⟨⟩) Q)
      -∗ Runs c (.op (.semWait barS (2#32).toNat) k) Q) := by
  unfold Owes
  iintro #HR Hat Hc ⟨%W, HO⟩ Hk
  iapply (Rounds.wp_wait_rest_token 𝒱₀ ER (ringRd X) (c : Thread nD τ) none (κ := K (c, kBar))
      (wpE_semWait_eq 𝒱₀ (c : Thread nD τ) none Set.univ) (Set.mem_univ _) () (O := owed c 0 0) (W := W) (R := 0) (m := 0) (T := ∅)
      (by rw [show ((c : Thread nD τ), SemLoc.reg barS) = cell kBar c from rfl, expect_bar]; decide)) $$ [Hc HO Hat]
  · isplitr; · iapply (records_inv X K kBar c); iexact HR
    isplitl [Hc]; · iexact Hc
    isplitl [HO]; · iexact HO
    isplitr
    · iapply (mayWait_cell c kBar 0 0 (by rw [lv_cell]; decide) (by rw [lv_cell]; decide)); iapply (records_lev X K); iexact HR
    iexact Hat
  iintro ⟨HO, Hat, -, Hpay⟩
  ihave Hp := (Entails.of_eq (show bigSep ((ringRd X).duties ((c : Thread nD τ), SemLoc.reg barS) 0 \ ∅) (fun d => (ringRd X).payload ((c : Thread nD τ), SemLoc.reg barS) 0 d)
      = iprop(barPay (F := F) true c ∗ barPay (F := F) false c) from rest_bar X c)) $$ Hpay
  unfold Runs
  imod (Rounds.cell_close ER (ringRd X) (Set.mem_univ (K (c, kBar))) (fun h => h) (R := 0 + 1) (duties_later X kBar c)) $$ [Hat] with Hz
  · isplitr; · iapply (records_inv X K kBar c); iexact HR
    iexact Hat
  iapply Hk
  isplitl [Hz]; · iexact Hz
  isplitl [HO]; · iexists _; iexact HO
  iexact Hp

/-! ## The first loads and stores -/

/-- The staged weights. -/
def wRes (c : Dev nD) : sProp 𝕄 := (wM.view.loc (c : Thread nD τ)) ↦{fullShare} (Wt c)
/-- The buffer of the rounded weights, whatever it holds. -/
def wbAny (c : Dev nD) : sProp 𝕄 := iprop(∃ f : Buf (Elt F) (wbM.view.loc (c : Thread nD τ)), wbM.view.loc (c : Thread nD τ) ↦{fullShare} f)

/-- The staged weights loaded, rounded and stored. -/
theorem round_weights (c : Dev nD) {inb inb₁ inb₂ : ∀ a : Fin 2, (![0, 0] : Fin 2 → ℕ) a + S4096x512.size a ≤ S4096x512.size a} {hl₁ hl₂ hx hm}
    {k : PUnit → Prog (TpuEff nD τ sig (Elt F) Λ₀ .tc) α} :
    wRes Wt c ⊢ iprop(wbAny (F := F) c -∗ ((wRes Wt c ∗ wbRes Wt c) -∗ Runs c (k ⟨⟩) Q)
      -∗ Runs c (.op (.load wM (Rect.unit (s := S4096x512) ![0, 0] S4096x512.size inb).toLoadRect hl₁) fun v =>
          .op (.load wbM (Rect.unit (s := S4096x512) ![0, 0] S4096x512.size inb₁).toLoadRect hl₂) fun _ =>
          .op (.store wbM (Rect.unit (s := S4096x512) ![0, 0] S4096x512.size inb₂) (k0_pay1 v) Finset.univ hx hm) k) Q) := by
  unfold wRes wbAny wbRes
  iintro Hw ⟨%f, Hb⟩ Hk
  iapply (wp_load 𝒱₀ (c : Thread nD τ) none Set.univ (m := wM) (Finset.subset_univ _)) $$ Hw
  iintro Hw
  have e : wM.view.readAt (Elt F) (Rect.unit (s := S4096x512) ![0, 0] S4096x512.size inb).toLoadRect (Wt c) = Wt c :=
    Memref.readAt_unit_zero (Elt F) cc0_stg1_0 zero_off inb (Wt c)
  rw [e]
  iapply (wp_load 𝒱₀ (c : Thread nD τ) none Set.univ (m := wbM) (Finset.subset_univ _)) $$ Hb
  iintro Hb
  iapply (wp_store 𝒱₀ (c : Thread nD τ) none Set.univ (m := wbM) (r := Rect.unit (s := S4096x512) ![0, 0] S4096x512.size inb₂) (Mk := Finset.univ)
    (Finset.subset_univ _)) $$ Hb
  iintro Hb
  have e' : (wbM.access (Rect.unit (s := S4096x512) ![0, 0] S4096x512.size inb₂)).write (Elt F) f (k0_pay1 (Wt c)) Finset.univ = wb Wt c :=
    Memref.write_access_unit_zero_univ (Elt F) cc0_scratch1 zero_off inb₂ f (k0_pay1 (Wt c))
  rw [e']
  iapply Hk
  isplitl [Hw]; · iexact Hw
  iexact Hb

/-- The device's own block loaded from its staging buffer, multiplied and stored. -/
theorem own_gemm (c : Dev nD) {D : List ℕ} {q : PosShare TreeShare} {off : Fin 2 → ℕ} (hoff : off = ![256 * c.val, 0])
    {inb : ∀ a : Fin 2, (![0, 0] : Fin 2 → ℕ) a + S256x4096.size a ≤ S256x4096.size a}
    {inbw : ∀ a : Fin 2, (![0, 0] : Fin 2 → ℕ) a + S4096x512.size a ≤ S4096x512.size a}
    {inb₂ : ∀ a : Fin 2, off a + S256x512.size a ≤ S4096x512.size a} {r : LoadRect S4096x512}
    {hl₁ hl₂ hl₃ hx hm} {k : PUnit → Prog (TpuEff nD τ sig (Elt F) Λ₀ .tc) α} :
    xRes X c q ⊢ iprop(wbRes Wt c -∗ outRes X Wt c D
      -∗ ((xRes X c q ∗ wbRes Wt c ∗ outRes X Wt c (done c D)) -∗ Runs c (k ⟨⟩) Q)
      -∗ Runs c (.op (.load xM (Rect.unit (s := S256x4096) ![0, 0] S256x4096.size inb).toLoadRect hl₁) fun v =>
          .op (.load wbM (Rect.unit (s := S4096x512) ![0, 0] S4096x512.size inbw).toLoadRect hl₂) fun w =>
          .op (.load oM r hl₃) fun _ =>
          .op (.store oM (Rect.unit (s := S4096x512) off S256x512.size inb₂) (k0_pay2 v w) Finset.univ hx hm) k) Q) := by
  iintro Hx Hw Ho Hk
  iapply (load_x X c) $$ Hx
  iintro Hx
  iapply (load_wb Wt c) $$ Hw
  iintro Hw
  iapply (load_out X Wt c) $$ Ho
  iintro %u Ho
  iapply (store_full X Wt c c (own_ne_far c) hoff (pay2_eq (X c) (wb Wt c))) $$ Ho
  iintro Ho
  iapply Hk
  isplitl [Hx]; · iexact Hx
  isplitl [Hw]; · iexact Hw
  iexact Ho

end

/-! ## The parts -/

theorem part1 {Q : (Σ' (d0 : Dev nD) (v2 : BitVec 32) (v5 : BitVec 32), BitVec 32) → sProp (MT nD τ sig Unit (Elt F) ℕ UU ℕ)} (c : Dev nD) :
    records X K ⊢ iprop(barStart (F := F) c -∗ sendStart (F := F) true c -∗ sendStart (F := F) false c -∗ wRes Wt c -∗ wbAny (F := F) c
      -∗ xRes X c (xShare true) -∗ Owes c (owed₀ c)
      -∗ (∀ a b e, wRes Wt c -∗ wbRes Wt c -∗ semVal (cell kBar c) 0 -∗ sendBusy true 0 c -∗ sendIdle false 0 c -∗ Owes c (owed c 1 0) -∗ Q ⟨c, a, b, e⟩)
      -∗ Runs c (onRefs (k0_part1 (F := F))) Q) := by
  unfold onRefs
  rw [k0_part1_eq_skeleton]; unfold k0_part1_skel Runs
  simp only [semSignalWord, semWaitWord, Prog.lift, Prog.bind_op, Prog.bind_ret, Prog.pure_eq_ret, wp_deviceId]
  unfold barStart
  iintro #HR ⟨HtP, HtN, HpP, HpN, Hat, Hc⟩ HsR HsL Hw Hb Hx HO Hk
  iapply (round_weights Wt c) $$ Hw Hb
  iintro ⟨Hw, Hb⟩
  iapply (bar_signal X K c (prv c) _ true (dev_prv (k0_dev1_eq c)) (O₀ := owed₀ c) (owed₁ c) rfl) $$ HR HO HtP HpP
  iintro HO
  iapply (bar_signal X K c (nxt c) _ false (dev_nxt (k0_dev2_eq c)) (O₀ := owed₁ c) (owed c 0 0) rfl) $$ HR HO HtN HpN
  iintro HO
  iapply (bar_wait X K c) $$ HR Hat Hc HO
  iintro ⟨Hz, HO, HpR, HpL⟩
  ihave HsR := (send_ready X K true c) $$ HR HsR HpR
  ihave HsL := (send_ready X K false c) $$ HR HsL HpL
  iapply (send_first X K true c _ (dev_nxt (k0_dev3_eq c)) (own_slot c) send_sem_right (recv_sem_right 0 (by decide)) (amount_full _ (recv_sem_right 0 (by decide)) (by decide)) (O₀ := owed c 0 0) (owed c 1 0) (owed_step_right c 0 0)) $$ HR HsR HO Hx
  iintro ⟨HsR, HO⟩
  iapply (runs_ret c)
  iapply Hk $$ %_ %_ %_ Hw Hb Hz HsR HsL HO

theorem part2 {Q : (Σ' (v44 : BitVec 32) (v55 : BitVec 32), BitVec 32) → sProp (MT nD τ sig Unit (Elt F) ℕ UU ℕ)} (c : Dev nD) {D : List ℕ}
    {q : PosShare TreeShare} (v2 v5 v7 : BitVec 32) :
    records X K ⊢ iprop(sendIdle false 0 c -∗ xRes X c (xShare false) -∗ xRes X c q -∗ wbRes Wt c -∗ outRes X Wt c D -∗ recvRes true 0 c
      -∗ sendBusy true 0 c -∗ Owes c (owed c 1 0)
      -∗ (∀ a b e, sendBusy false 0 c -∗ xRes X c q -∗ wbRes Wt c -∗ outRes X Wt c (done c D) -∗ recvRes true 1 c
            -∗ slotRes X (org true 0 c) c fullShare -∗ sendIdle true 1 c -∗ xRes X c (xShare true) -∗ Owes c (owed c 1 1) -∗ Q ⟨a, b, e⟩)
      -∗ Runs c (onRefs (k0_part2 (F := F)) c v2 v5 v7) Q) := by
  unfold onRefs
  rw [k0_part2_eq_skeleton]; unfold k0_part2_skel
  simp only [Prog.lift, Prog.bind_op, Prog.bind_ret, Prog.pure_eq_ret]
  iintro #HR HsL Hxl Hx Hw Hout HrR HsR HO Hk
  iapply (send_first X K false c _ (dev_prv (k0_dev4_eq c)) (own_slot c) send_sem_left (recv_sem_left 0 (by decide)) (amount_full _ (recv_sem_left 0 (by decide)) (by decide)) (O₀ := owed c 1 0) (owed c 1 1) (owed_step_left c 1 0)) $$ HR HsL HO Hxl
  iintro ⟨HsL, HO⟩
  iapply (own_gemm X Wt c (k0_off2_eq c)) $$ Hx Hw Hout
  iintro ⟨Hx, Hw, Hout⟩
  iapply (arrive X K true 0 (by decide) c (by decide) (by decide) (recv_sem_right 0 (by decide))) $$ HR HrR HO
  iintro ⟨HrR, HO, Hs⟩
  iapply (left_first X K true c send_sem_right) $$ HR HsR HO
  iintro ⟨HsR, HO, Hxr⟩
  iapply (runs_ret c)
  iapply Hk $$ %_ %_ %_ HsL Hx Hw Hout HrR Hs HsR Hxr HO

end Cert.RingProof
-- ==== Proof.Body.lean ====
/-
The ring all-gather product — the kernel's body on a device `c`: its parts one after the other, and what the whole of it
takes and leaves.
-/
module

public import proofs.«01_k».proof.Proof.Opening

@[expose] public section

set_option backward.proofsInPublic true
set_option maxRecDepth 8000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (Wt : Dev nD → Vec F S4096x512 .f32) (K : Dev nD × CellKind → ℕ)

/-- The ring's ghost state a device starts from, -/
def ringIn (c : Dev nD) : sProp 𝕄 :=
  iprop(barStart (F := F) c ∗ sendStart (F := F) true c ∗ sendStart (F := F) false c ∗ recvRes (F := F) true 0 c ∗ recvRes (F := F) false 0 c
    ∗ locIdle (F := F) 0 0 c ∗ locIdle (F := F) 1 0 c ∗ locIdle (F := F) 2 0 c ∗ locIdle (F := F) 3 0 c)
/-- and what it leaves: the barrier and the receive cells closed, every other cell at its last round. -/
def ringOut (c : Dev nD) : sProp 𝕄 :=
  iprop(semVal (cell kBar c) 0 ∗ sendIdle (F := F) true 8 c ∗ sendIdle (F := F) false 8 c ∗ recvRes (F := F) true 8 c ∗ recvRes (F := F) false 8 c
    ∗ locIdle (F := F) 0 5 c ∗ locIdle (F := F) 1 4 c ∗ locIdle (F := F) 2 4 c ∗ locIdle (F := F) 3 3 c)
/-- The local buffer slot by slot. -/
def slotsAny (c : Dev nD) : sProp 𝕄 := iprop(bufAny (F := F) 0 c ∗ bufAny (F := F) 1 c ∗ bufAny (F := F) 2 c ∗ bufAny (F := F) 3 c)

/-- The half blocks in the order they are stored. -/
abbrev allDone (c : Dev nD) : List ℕ :=
  (2 * (org true 7 c).val + hrow false / 128) :: (2 * (org true 7 c).val + hrow true / 128) ::
    done (org false 6 c) (done (org true 6 c) (done (org false 5 c) (done (org true 5 c) (done (org false 4 c) (done (org true 4 c)
      (done (org false 3 c) (done (org true 3 c) (done (org false 2 c) (done (org true 2 c) (done (org false 1 c) (done (org true 1 c)
        (done (org false 0 c) (done (org true 0 c) (done c []))))))))))))))

/-- They are all of them. -/
theorem mem_allDone (c : Dev nD) (b : Fin 32) : b.val ∈ allDone c := by revert b; revert c; decide +kernel

theorem bottom_rows (c : Dev nD) : k0_off12 c = ![256 * (org true 7 c).val + hrow false, 0] := (k0_off12_eq c).trans (by revert c; decide)

/-- A half of a slot and the rest of it. -/
theorem buf_whole (j : Fin 4) (c : Dev nD) (V : Vec F S128x4096 .f32) : iprop(bufHalfRes j c V ∗ bufRest (F := F) j c) ⊢ bufAny (F := F) j c := by
  unfold bufHalfRes bufRest bufAny
  iintro ⟨⟨%f, -, H⟩, ⟨%g, H'⟩⟩
  iexists (bufHalf j).view.set.piecewise f g
  iapply (pointsTo_join_subset (ℓ := (bufSlot j).view.loc (c : Thread nD τ)) (q := fullShare) (f := g) (g := f) (bufHalf_sub j))
  isplitl [H]; · iexact H
  iexact H'

variable {Q : PUnit → sProp (MT nD τ sig Unit (Elt F) ℕ UU ℕ)}

set_option maxHeartbeats 4000000 in
theorem body_runs (c : Dev nD) {q : PosShare TreeShare} :
    records X K ⊢ iprop(ringIn (F := F) c -∗ wRes Wt c -∗ wbAny (F := F) c -∗ xRes X c (xShare true) -∗ xRes X c (xShare false) -∗ xRes X c q
      -∗ outRes X Wt c [] -∗ slotsAny (F := F) c -∗ Owes (F := F) c (owed₀ c)
      -∗ (ringOut (F := F) c -∗ wRes Wt c -∗ wbRes Wt c -∗ xRes X c (xShare true) -∗ xRes X c (xShare false) -∗ xRes X c q
            -∗ outRes X Wt c (allDone c) -∗ slotsAny (F := F) c -∗ Owes (F := F) c 0 -∗ Q ⟨⟩)
      -∗ Runs c (onRefs (cc0_body (F := F))) Q) := by
  unfold onRefs
  rw [cc0_body_eq_skeleton]; unfold cc0_body_skel
  rw [k0_part26_eq_skeleton]; unfold k0_part26_skel Runs ringIn slotsAny
  simp only [Prog.lift, Prog.bind_op, Prog.bind_ret, Prog.pure_eq_ret, wp_bind]
  iintro #HR ⟨HB, HsR, HsL, HrR, HrL, Hl0, Hl1, Hl2, Hl3⟩ HwM Hwb Hxr Hxl Hx Hout ⟨Hb0, Hb1, Hb2, Hb3⟩ HO Hk
  iapply (part1 X Wt K c) $$ HR HB HsR HsL HwM Hwb Hxr HO
  iintro %v2 %v5 %v7 HwM Hw Hz HsR HsL HO
  iapply (part2 X Wt K c v2 v5 v7) $$ HR HsL Hxl Hx Hw Hout HrR HsR HO
  iintro %v44 %v55 %c0 HsL Hx Hw Hout HrR Hs HsR Hxr HO
  iapply (part3 X K c v2 v5 v7 v55 c0) $$ HR HsR HsL HrL Hs Hl0 Hb0 HO
  iintro %v71 HsR HsL HrL Hs Hl0 Hxl HO
  iapply (part4 X Wt K c v44) $$ HR HsL Hs Hl0 Hl2 Hb2 Hw Hout HO
  iintro HsL Hl0 Hb0 Hl2 Hw Hout HO
  iapply (part5 X Wt K c v2 v5 v71) $$ HR HrR Hl2 Hw Hout HO
  iintro %v131 HrR Hs Hl2 Hb2 Hw Hout HO
  iapply (part6 X K c v2 v7) $$ HR HsR Hs Hl1 Hb1 HrL HO
  iintro %v160 HsR Hl1 HrL Hs HO
  iapply (part7 X Wt K c v5 v131) $$ HR HsL Hs Hl3 Hb3 Hl1 Hw HO
  iintro %v193 %p1 %p2 %hp HsL Hl3 Hl1 Hb1 Hw HO
  iapply (part8 X Wt K c v2 v5 v160 v193 p1 p2 hp) $$ HR Hl3 Hw Hout HO
  iintro %v222 Hl3 Hb3 Hw Hout HO
  iapply (part9 X K c v2 v7) $$ HR HrR HsR Hl0 Hb0 HO
  iintro %v251 HrR HsR Hl0 HO
  iapply (part10 X K c v5 v222) $$ HR HrL HsL Hl2 Hb2 Hl0 HO
  iintro %v284 HrL HsL Hl2 Hl0 Hb0 HO
  iapply (part11 X Wt K c v2 v5 v251 v284) $$ HR Hb0 Hl2 Hw Hout HO
  iintro %v313 Hb0 Hl2 Hb2 Hw Hout HO
  iapply (part12 X K c v2 v7) $$ HR HrR HsR Hl1 Hb1 HO
  iintro %v342 %v343 HrR HsR Hl1 HO
  iapply (part13 X K c v5 v343) $$ HR HrL HsL Hl3 Hb3 HO
  iintro HrL HsL Hl3 HO
  iapply (part14 X Wt K c v2 v313 v342) $$ HR Hl1 Hl3 Hw Hout HO
  iintro %v401 %c4 Hl1 Hb1 Hl3 Hb3 Hw Hout HO
  iapply (part15 X K c v5 v7 v401 c4) $$ HR HrR HsR HO
  iintro %v404 HrR HsR Hs HO
  iapply (part16 X K c v2 v5 v7) $$ HR Hs Hl0 Hb0 HrL HsL HO
  iintro %v433 Hl0 HrL HsL Hs HO
  iapply (part17 X Wt K c v404 v433) $$ HR Hs Hl2 Hb2 Hl0 Hw Hout HO
  iintro %v482 %p3 %p4 %p5 %hp' Hl2 Hb2 Hl0 Hb0 Hw Hout HO
  iapply (part18 X Wt K c v2 v5 v7 v482 p3 p4 p5 hp') $$ HR Hout HrR HsR HO
  iintro %v495 Hout HrR HsR Hs HO
  iapply (part19 X K c v2 v5 v7) $$ HR Hs Hl1 Hb1 HrL HsL HO
  iintro %v524 Hl1 HrL HsL Hs HO
  iapply (part20 X Wt K c v495 v524) $$ HR Hs Hl3 Hb3 Hl1 Hw Hout HO
  iintro %v573 Hl3 Hb3 Hl1 Hb1 Hw Hout HO
  iapply (part21 X Wt K c v2 v5 v7 v573) $$ HR Hb3 Hw Hout HrR HsR HO
  iintro %v586 Hb3 Hw Hout HrR HsR Hs HO
  iapply (part22 X K c v2 v5 v7) $$ HR HsR Hs Hl0 Hb0 HrL HsL HO
  iintro %v615 HsR Hl0 HrL HsL Hs HO
  iapply (part23 X Wt K c v586) $$ HR HsL Hs Hl2 Hb2 Hl0 Hw Hout HO
  iintro HsL Hl2 Hl0 Hb0 Hw Hout HO
  iapply (part24 X Wt K c v2 v5 v615) $$ HR Hl2 Hw Hout HrR Hl0 Hb0 HO
  iintro %v675 Hl2 Hb2 Hw Hout HrR Hl0 Hrest0 HO
  iapply (part25 X Wt K c v7 v675) $$ HR Hl0 Hw Hout HrL HO
  iintro Hl0 Hb0 Hw Hout HrL Hs HO
  iapply (fetch_half X K 1 3 false (by decide) c (far_bottom c) (loc_sem 1 (by decide))) $$ HR Hl1 Hs Hb1
  iintro ⟨Hl1, Hrest1⟩
  iapply (fetched_half X K 1 3 false (by decide) c (loc_sem 1 (by decide))) $$ HR Hl1 HO
  iintro ⟨Hl1, HO, Hb1⟩
  iapply (gemm_half_step X Wt 1 c false rfl (bottom_rows c) (fun _ _ => rfl)) $$ Hb1 Hw Hout
  iintro ⟨Hb1, Hw, Hout⟩
  iapply (runs_ret c)
  iapply (left_last X K true c send_sem_right) $$ HR HsR HO
  iintro ⟨HsR, HO⟩
  iapply (left_last X K false c send_sem_left) $$ HR HsL HO
  iintro ⟨HsL, HO⟩
  iapply (runs_ret c)
  ihave HO := (Entails.of_eq (congrArg (Owes (F := F) c) (owed_eight c))) $$ HO
  unfold ringOut
  iapply Hk $$ [Hz HsR HsL HrR HrL Hl0 Hl1 Hl2 Hl3] HwM Hw Hxr Hxl Hx Hout [Hb0 Hrest0 Hb1 Hrest1 Hb2 Hb3] HO
  · isplitl [Hz]; · iexact Hz
    isplitl [HsR]; · iexact HsR
    isplitl [HsL]; · iexact HsL
    isplitl [HrR]; · iexact HrR
    isplitl [HrL]; · iexact HrL
    isplitl [Hl0]; · iexact Hl0
    isplitl [Hl1]; · iexact Hl1
    isplitl [Hl2]; · iexact Hl2
    iexact Hl3
  · isplitl [Hb0 Hrest0]
    · iapply (buf_whole 0 c (xHalf X true (org true 7 c)))
      isplitl [Hb0]; · iexact Hb0
      iexact Hrest0
    isplitl [Hb1 Hrest1]
    · iapply (buf_whole 1 c (xHalf X false (org true 7 c)))
      isplitl [Hb1]; · iexact Hb1
      iexact Hrest1
    isplitl [Hb2]; · iexact Hb2
    iexact Hb3

end Cert.RingProof
-- ==== Proof.Memory.lean ====
/-
The ring all-gather product — cutting the buffers up as the body wants them: the staged block in three shares, the local
buffer in its four slots, the communication buffer in the sixteen pieces the neighbours write; and closing the semaphores
at the end.
-/
module

public import proofs.«01_k».proof.Proof.Body

@[expose] public section

set_option backward.proofsInPublic true
set_option maxRecDepth 8000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .f32) (K : Dev nD × CellKind → ℕ)

/-! ## The staged block in three shares -/

/-- The share the loads keep. -/
abbrev xKeep : PosShare TreeShare := fullShare.right.right

theorem xRes_eq (c : Dev nD) (q : PosShare TreeShare) :
    xRes X c q = (((c : Thread nD τ).loc cc0_stg0_0) ↦{q} X c : sProp 𝕄) := by
  unfold xRes; rw [show xM.view.set = Finset.univ from View.set_whole _]

theorem x_split (c : Dev nD) :
    (((c : Thread nD τ).loc cc0_stg0_0) ↦{fullShare} X c : sProp 𝕄) ⊢ iprop(xRes X c (xShare true) ∗ xRes X c (xShare false) ∗ xRes X c xKeep) := by
  simp only [xRes_eq]
  refine (pointsTo_share (PosShare.mem_left_op_right fullShare)).1.trans (sep_mono_right ?_)
  exact (pointsTo_share (PosShare.mem_left_op_right fullShare.right)).1

theorem x_join (c : Dev nD) :
    iprop(xRes X c (xShare true) ∗ xRes X c (xShare false) ∗ xRes X c xKeep) ⊢ (((c : Thread nD τ).loc cc0_stg0_0) ↦{fullShare} X c : sProp 𝕄) := by
  simp only [xRes_eq]
  refine (sep_mono_right ?_).trans (pointsTo_share (PosShare.mem_left_op_right fullShare)).2
  exact (pointsTo_share (PosShare.mem_left_op_right fullShare.right)).2

/-! ## The local buffer in its slots -/

/-- The elements of slot `j`. -/
abbrev bufSet (c : Dev nD) (j : Fin 4) : Finset (Idx ((c : Thread nD τ).loc cc0_scratch0)) := (bufSlot j).view.set

theorem mem_buf_set (c : Dev nD) (j : Fin 4) (i : S4x256x4096.Idx) : i ∈ bufSet c j ↔ (i 0).val = j.val := by
  unfold bufSet
  rw [View.set_reshape, View.set_slice_whole, Rect.mem_set_unit]
  constructor
  · intro h
    have := h 0
    change j.val ≤ (i 0).val ∧ (i 0).val < j.val + 1 at this
    omega
  · intro h a
    fin_cases a
    · show j.val ≤ (i 0).val ∧ (i 0).val < j.val + 1; omega
    · exact ⟨Nat.zero_le _, by show (i 1).val < 0 + 256; have : (i 1).val < 256 := (i 1).isLt; omega⟩
    · exact ⟨Nat.zero_le _, by show (i 2).val < 0 + 4096; have : (i 2).val < 4096 := (i 2).isLt; omega⟩

theorem buf_disjoint (c : Dev nD) (j : Fin 4) (_ : j ∈ Finset.univ) (j' : Fin 4) (_ : j' ∈ Finset.univ) (h : j ≠ j') :
    Disjoint (bufSet c j) (bufSet c j') :=
  Finset.disjoint_left.mpr fun i hi hi' => h (Fin.ext (((mem_buf_set c j i).mp hi).symm.trans ((mem_buf_set c j' i).mp hi')))
theorem buf_cover (c : Dev nD) : (Finset.univ : Finset (Fin 4)).biUnion (bufSet c) = Finset.univ :=
  Finset.eq_univ_of_forall fun i => Finset.mem_biUnion.mpr ⟨i 0, Finset.mem_univ _, (mem_buf_set c (i 0) i).mpr rfl⟩

theorem slotsAny_eq (c : Dev nD) : slotsAny (F := F) c = bigSep Finset.univ fun j : Fin 4 => bufAny (F := F) j c := by
  rw [bigSep_univ_eq_bigSepL [0, 1, 2, 3] (by decide) (by decide)]; rfl

theorem bufAny_intro (j : Fin 4) (c : Dev nD) (f : Buf (Elt F) ((c : Thread nD τ).loc cc0_scratch0)) :
    (((c : Thread nD τ).loc cc0_scratch0) ↦[bufSet c j]{fullShare} f : sProp 𝕄) ⊢ bufAny (F := F) j c := by
  unfold bufAny; iintro H; iexists f; iexact H

theorem buf_split (c : Dev nD) (f : Buf (Elt F) ((c : Thread nD τ).loc cc0_scratch0)) :
    (((c : Thread nD τ).loc cc0_scratch0) ↦{fullShare} f : sProp 𝕄) ⊢ slotsAny (F := F) c := by
  rw [slotsAny_eq]
  refine (Entails.of_eq ((congrArg (fun S => (((c : Thread nD τ).loc cc0_scratch0) ↦[S]{fullShare} f : sProp 𝕄)) (buf_cover c).symm).trans
    (pointsTo_biUnion Finset.univ (bufSet c) (buf_disjoint c)))).trans (bigSep_mono fun j _ => bufAny_intro j c f)

theorem buf_join (c : Dev nD) :
    slotsAny (F := F) c ⊢ (iprop(∃ f : Buf (Elt F) ((c : Thread nD τ).loc cc0_scratch0), ((c : Thread nD τ).loc cc0_scratch0) ↦{fullShare} f) : sProp 𝕄) := by
  rw [slotsAny_eq]
  unfold bufAny
  iintro H
  ihave H' := (BI.bigSep_exists_pi Finset.univ (fun (j : Fin 4) (f : Buf (Elt F) ((c : Thread nD τ).loc cc0_scratch0)) =>
    (((c : Thread nD τ).loc cc0_scratch0) ↦[bufSet c j]{fullShare} f : sProp 𝕄))) $$ H
  icases H' with ⟨%fs, H'⟩
  ihave H2 := (pointsTo_biUnion_join (ℓ := (c : Thread nD τ).loc cc0_scratch0) (q := fullShare) Finset.univ (bufSet c) fs (fs 0) (buf_disjoint c)) $$ H'
  icases H2 with ⟨%g, -, H2⟩
  iexists g
  iapply (Entails.of_eq (congrArg (fun S => (((c : Thread nD τ).loc cc0_scratch0) ↦[S]{fullShare} g : sProp 𝕄)) (buf_cover c)))
  iexact H2

/-! ## The communication buffer in the pieces the neighbours write -/

theorem mem_slotSet (d : Bool) (h : Fin 8) (c : Dev nD) (i : S16x256x4096.Idx) (hi : i ∈ slotSet d h c) :
    (i 0).val = (org d h.val c).val ∧ (h.val = 7 → hrow d ≤ (i 1).val ∧ (i 1).val < hrow d + 128) := by
  unfold slotSet at hi
  split at hi
  · exact ⟨(mem_slot_set _ i).mp hi, fun e => by omega⟩
  · exact ⟨((mem_half_set _ _ i).mp hi).1, fun _ => ((mem_half_set _ _ i).mp hi).2⟩

/-- Two transfers to a device write blocks of different devices, or both are the last of their direction. -/
theorem org_inj (c : Dev nD) (d d' : Bool) (h h' : Fin 8) (e : org d h.val c = org d' h'.val c) : (d = d' ∧ h = h') ∨ (d ≠ d' ∧ h = 7 ∧ h' = 7) := by
  revert e h h' d d' c; decide +kernel

theorem slotSet_disjoint (c : Dev nD) (p : Bool × Fin 8) (_ : p ∈ Finset.univ) (p' : Bool × Fin 8) (_ : p' ∈ Finset.univ) (h : p ≠ p') :
    Disjoint (slotSet p.1 p.2 c) (slotSet p'.1 p'.2 c) := by
  refine Finset.disjoint_left.mpr fun i hi hi' => ?_
  obtain ⟨d, n⟩ := p; obtain ⟨d', n'⟩ := p'
  obtain ⟨a, a'⟩ := mem_slotSet d n c i hi
  obtain ⟨b, b'⟩ := mem_slotSet d' n' c i hi'
  rcases org_inj c d d' n n' (Fin.ext (a.symm.trans b)) with ⟨rfl, rfl⟩ | ⟨hd, rfl, rfl⟩
  · exact h rfl
  · have a := a' rfl; have b := b' rfl
    rcases d with _ | _ <;> rcases d' with _ | _
    · exact hd rfl
    · simp only [hrow, Bool.false_eq_true, if_false, if_true] at a b; omega
    · simp only [hrow, Bool.false_eq_true, if_false, if_true] at a b; omega
    · exact hd rfl

theorem dn_prv (c : Dev nD) : dn true (prv c) = c := dn_up true c
theorem dn_nxt (c : Dev nD) : dn false (nxt c) = c := dn_up false c

theorem bigSep_bool (Φ : Bool → sProp 𝕄) : bigSep Finset.univ Φ = iprop(Φ true ∗ Φ false) := by
  rw [bigSep_univ_eq_bigSepL [true, false] (by decide) (by decide), bigSepL_cons_cons, bigSepL_singleton]; rfl

theorem dst_intro (d : Bool) (h : Fin 8) (c : Dev nD) (f : Buf (Elt F) ((c : Thread nD τ).loc main_v1_1)) :
    (((c : Thread nD τ).loc main_v1_1) ↦[slotSet d h c]{fullShare} f : sProp 𝕄) ⊢ dstRes (F := F) d h (up d c) := by
  unfold dstRes
  rw [dn_up]
  iintro H; iexists f; iexact H

theorem comm_split (c : Dev nD) (f : Buf (Elt F) ((c : Thread nD τ).loc main_v1_1)) :
    (((c : Thread nD τ).loc main_v1_1) ↦{fullShare} f : sProp 𝕄) ⊢ iprop(barPay (F := F) true (prv c) ∗ barPay (F := F) false (nxt c)) := by
  have e (d : Bool) : (bigSep Finset.univ fun h : Fin 8 => (((c : Thread nD τ).loc main_v1_1) ↦[slotSet d h c]{fullShare} f : sProp 𝕄))
      ⊢ barPay (F := F) d (up d c) := by
    unfold barPay
    exact bigSep_mono fun h _ => dst_intro d h c f
  iintro H
  ihave H' := ((pointsTo_split_subset (Finset.subset_univ (Finset.univ.biUnion fun p : Bool × Fin 8 => slotSet p.1 p.2 c))).1) $$ H
  icases H' with ⟨H', -⟩
  ihave H2 := (Entails.of_eq ((pointsTo_biUnion (ℓ := (c : Thread nD τ).loc main_v1_1) (q := fullShare) (f := f) Finset.univ
    (fun p : Bool × Fin 8 => slotSet p.1 p.2 c) (slotSet_disjoint c)).trans ((bigSep_univ_prod _).trans
      (bigSep_bool _)))) $$ H'
  icases H2 with ⟨H1, H2⟩
  isplitl [H1]
  · iapply (e true); iexact H1
  iapply (e false); iexact H2

/-! ## Closing the semaphores -/

theorem close_cell (k : CellKind) {r : ℕ} (hr : rounds k = r) (c : Dev nD) :
    records X K ⊢ iprop(atPos ER (cell k c) r ∅ 0 -∗ |={Set.univ}=> semVal (cell k c) 0) := by
  subst hr
  iintro HR Hat
  iapply (Rounds.cell_close ER (ringRd X) (κ := K (c, k)) (Set.mem_univ _) id (duties_later X k c))
  isplitl [HR]
  · iapply (records_inv X K k c); iexact HR
  iexact Hat

theorem recvRes_closed (d : Bool) (c : Dev nD) : recvRes (F := F) d 8 c ⊢ (bigSep Finset.univ fun h : Fin 8 => semVal (cell (kRecv d h) c) 0 : sProp 𝕄) := by
  unfold recvRes fromTo
  refine bigSep_mono fun h _ => ?_
  rw [if_neg (show ¬ 8 ≤ h.val from Nat.not_le.mpr h.isLt)]
  exact BI.Entails.refl _

/-- The own semaphores one after the other, the receive ones by direction. -/
theorem bigSep_own (Φ : OwnKind → sProp 𝕄) :
    bigSep Finset.univ Φ = iprop((Φ (.inl true) ∗ Φ (.inl false))
      ∗ ((bigSep Finset.univ fun h : Fin 8 => Φ (.inr (.inl (true, h)))) ∗ bigSep Finset.univ fun h : Fin 8 => Φ (.inr (.inl (false, h))))
      ∗ Φ (.inr (.inr 0)) ∗ Φ (.inr (.inr 1)) ∗ Φ (.inr (.inr 2)) ∗ Φ (.inr (.inr 3))) := by
  rw [bigSep_univ_sum, bigSep_univ_sum, bigSep_univ_prod, bigSep_bool, bigSep_bool,
    bigSep_univ_eq_bigSepL [(0 : Fin 4), 1, 2, 3] (by decide) (by decide)]
  simp only [bigSepL_cons_cons, bigSepL_singleton]
  rfl

/-- Every semaphore of the ring at zero. -/
def closed (c : Dev nD) : sProp 𝕄 :=
  iprop(semVal (cell kBar c) 0 ∗ bigSep Finset.univ fun k : OwnKind => semVal (cell (.inr k) c) 0)

theorem ring_close (c : Dev nD) : records X K ⊢ iprop(ringOut (F := F) c -∗ |={Set.univ}=> closed (F := F) c) := by
  unfold ringOut sendIdle locIdle closed
  rw [bigSep_own]
  iintro #HR ⟨Hz, ⟨HsR, -, -⟩, ⟨HsL, -, -⟩, HrR, HrL, ⟨Hl0, -, -⟩, ⟨Hl1, -, -⟩, ⟨Hl2, -, -⟩, ⟨Hl3, -, -⟩⟩
  imod (close_cell X K (kSend true) (show rounds (kSend true) = 8 from rfl) c) $$ HR HsR with HsR
  imod (close_cell X K (kSend false) (show rounds (kSend false) = 8 from rfl) c) $$ HR HsL with HsL
  imod (close_cell X K (kLoc 0) (show rounds (kLoc 0) = 5 from rfl) c) $$ HR Hl0 with Hl0
  imod (close_cell X K (kLoc 1) (show rounds (kLoc 1) = 4 from rfl) c) $$ HR Hl1 with Hl1
  imod (close_cell X K (kLoc 2) (show rounds (kLoc 2) = 4 from rfl) c) $$ HR Hl2 with Hl2
  imod (close_cell X K (kLoc 3) (show rounds (kLoc 3) = 3 from rfl) c) $$ HR Hl3 with Hl3
  imodintro
  isplitl [Hz]; · iexact Hz
  isplitl [HsR HsL]
  · isplitl [HsR]; · iexact HsR
    iexact HsL
  isplitl [HrR HrL]
  · isplitl [HrR]
    · iapply (recvRes_closed true c); iexact HrR
    iapply (recvRes_closed false c); iexact HrL
  isplitl [Hl0]; · iexact Hl0
  isplitl [Hl1]; · iexact Hl1
  isplitl [Hl2]; · iexact Hl2
  iexact Hl3

end Cert.RingProof

end
-- ==== Proof.Launch.lean ====
/-
The ring all-gather product — the launch: the body's obligation on each device, the ring's ghost state made and dealt
around the ring, the credit every device starts with, and the run of the program.
-/
module

public import proofs.«01_k».proof.Proof.Memory

@[expose] public section

set_option backward.proofsInPublic true
set_option maxRecDepth 8000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## The pipeline's proof data -/

/-- Every device's blocks of `x` and of `w`, as its windows stage them. -/
def xAt (c : Dev nD) : Vec F S256x4096 .f32 := (win0_0.blk (0 : Fin 1)).view.read (Elt F) (m ((c : Thread nD τ).loc main_arg0))
def wAt (c : Dev nD) : Vec F S4096x512 .f32 := (win0_1.blk (0 : Fin 1)).view.read (Elt F) (m ((c : Thread nD τ).loc main_arg1))

/-- The scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What device `c` starts from: the ring's records and its own part of the ring; -/
def start (c : Dev nD) : sProp 𝕄 := iprop((∃ K, records (xAt m) K) ∗ ringIn (F := F) c)
def Φ₀ (c : Dev nD) : sProp 𝕄 := iprop(start m c ∗ scratch (F := F) c)
/-- after the body every semaphore is closed. -/
def Φ₁ (c : Dev nD) : sProp 𝕄 := iprop(closed (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wAt m c
    | ⟨2, _⟩ => outC (xAt m) (wAt m) c
  Φ t := match t with
    | ⟨0, _⟩ => Φ₀ m c
    | ⟨_ + 1, _⟩ => Φ₁ (F := F) c
  q _ := fullShare
  owed t := match t with
    | ⟨0, _⟩ => owed₀ c
    | ⟨_ + 1, _⟩ => 0

/-! ## The body's obligation -/

theorem owns_whole_eq (c : Dev nD) (b : Ref sig .tc) (Y : b.ty.Contents (Elt F)) :
    (owns (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ
    ∗ stg c cc0_stg0_0 (xAt m c) ∗ stg c cc0_stg1_0 (wAt m c) ∗ stg c cc0_stg2_0 (outC (xAt m) (wAt m) c))

theorem before_x (c : Dev nD) (d) : (dats m ρ 0 c).before (0 : Fin 3) t0_0 d = xAt m c := by
  unfold Dat.before; rw [if_pos (fetch0_0 t0_0)]; rfl
theorem before_w (c : Dev nD) (d) : (dats m ρ 0 c).before (1 : Fin 3) t0_0 d = wAt m c := by
  unfold Dat.before; rw [if_pos (fetch0_1 t0_0)]; rfl

theorem owes_in (c : Dev nD) : (dats m ρ 0 c).owesAt () t0_0.castSucc ⊢ Owes (F := F) c (owed₀ c) := by
  unfold Dat.owesAt Pipeline.owesWithin Owes
  iintro ⟨%W, %hW, H⟩
  iexists W; iexact H
theorem owes_out (c : Dev nD) : Owes (F := F) c 0 ⊢ (dats m ρ 0 c).owesAt () t0_0.succ := by
  unfold Dat.owesAt Pipeline.owesWithin Owes
  iintro ⟨%W, H⟩
  iexists W
  isplitr; · ipureintro; exact fun _ _ => Or.inl trivial
  iexact H

theorem out_eq (X : Dev nD → Vec F S256x4096 .f32) (Wt : Dev nD → Vec F S4096x512 .f32) (c : Dev nD) {f : S4096x512.Idx → Elt F .f32}
    (h : Agree X Wt c (allDone c) f) : f = outC X Wt c :=
  funext fun i => h i (mem_allDone c ⟨(i 0).val / 128, by have : (i 0).val < 4096 := (i 0).isLt; omega⟩)

theorem out_start (X : Dev nD → Vec F S256x4096 .f32) (Wt : Dev nD → Vec F S4096x512 .f32) (c : Dev nD) (f : Buf (Elt F) ((c : Thread nD τ).loc cc0_stg2_0)) :
    (((c : Thread nD τ).loc cc0_stg2_0) ↦{fullShare} f : sProp 𝕄) ⊢ outRes X Wt c [] := by
  unfold outRes
  iintro H
  iexists f
  isplitr; · ipureintro; exact fun i hi => absurd hi List.not_mem_nil
  iexact H
theorem out_end (X : Dev nD → Vec F S256x4096 .f32) (Wt : Dev nD → Vec F S4096x512 .f32) (c : Dev nD) :
    outRes X Wt c (allDone c) ⊢ stg c cc0_stg2_0 (outC X Wt c) := by
  unfold outRes
  iintro ⟨%f, %hf, H⟩
  iexists f
  isplitr; · ipureintro; exact out_eq X Wt c hf
  iexact H

theorem scratch_split (c : Dev nD) : scratch (F := F) c ⊢ iprop(slotsAny (F := F) c ∗ wbAny (F := F) c) := by
  unfold scratch wbAny
  iintro ⟨⟨%f, H⟩, H'⟩
  isplitl [H]; · iapply (buf_split c f); iexact H
  iexact H'
theorem scratch_join (Wt : Dev nD → Vec F S4096x512 .f32) (c : Dev nD) : iprop(slotsAny (F := F) c ∗ wbRes Wt c) ⊢ scratch (F := F) c := by
  unfold scratch wbRes
  iintro ⟨H, H'⟩
  isplitl [H]; · iapply (buf_join c); iexact H
  iexists _; iexact H'

theorem body_fits (c : Dev nD) : bodyPre m ρ c ⊢ Runs c (onRefs (cc0_body (F := F))) (fun _ => bodyPost m ρ c) := by
  unfold bodyPre Φ₀ start
  iintro ⟨⟨⟨⟨%K, #HR⟩, Hring⟩, Hscr⟩, Ho, ⟨%d0, %f0, %h0, Hx⟩, ⟨%d1, %f1, %h1, Hw⟩, ⟨%d2, %f2, -, Hout⟩⟩
  rw [before_x] at h0
  rw [before_w] at h1
  subst h0 h1
  ihave HO := (owes_in m ρ c) $$ Ho
  ihave Hxs := (x_split (xAt m) c) $$ Hx
  icases Hxs with ⟨Hxr, Hxl, Hxk⟩
  ihave Hs := (scratch_split (F := F) c) $$ Hscr
  icases Hs with ⟨Hbuf, Hwb⟩
  ihave Ho2 := (out_start (xAt m) (wAt m) c f2) $$ Hout
  ihave Hw2 := (show (((c : Thread nD τ).loc cc0_stg1_0) ↦{fullShare} wAt m c : sProp 𝕄) ⊢ wRes (wAt m) c from BI.Entails.refl _) $$ Hw
  iapply (wp_fupd frame (wpE (defs₀ (F := F)) 𝒱₀ (c : Thread nD τ) none) (E := Set.univ) (onRefs (cc0_body (F := F))) (fun _ => bodyPost m ρ c))
  iapply (body_runs (xAt m) (wAt m) K c) $$ HR Hring Hw2 Hwb Hxr Hxl Hxk Ho2 Hbuf HO
  iintro Hring Hw Hwb Hxr Hxl Hxk Hout Hbuf HO
  imod (ring_close (xAt m) K c) $$ HR Hring with Hclosed
  imodintro
  unfold bodyPost Φ₁
  isplitl [Hclosed Hbuf Hwb]
  · isplitl [Hclosed]; · iexact Hclosed
    iapply (scratch_join (wAt m) c)
    isplitl [Hbuf]; · iexact Hbuf
    iexact Hwb
  isplitl [HO]; · iapply (owes_out m ρ c); iexact HO
  isplitl [Hxr Hxl Hxk]
  · iexists (xAt m c)
    isplitr; · ipureintro; rfl
    iapply (x_join (xAt m) c)
    isplitl [Hxr]; · iexact Hxr
    isplitl [Hxl]; · iexact Hxl
    iexact Hxk
  isplitl [Hw]
  · iexists (wAt m c)
    isplitr; · ipureintro; rfl
    iapply (show wRes (wAt m) c ⊢ (((c : Thread nD τ).loc cc0_stg1_0) ↦{fullShare} wAt m c : sProp 𝕄) from BI.Entails.refl _)
    iexact Hw
  iapply (out_end (xAt m) (wAt m) c); iexact Hout

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_fits m ρ c

/-! ## The ring's ghost state -/

/-- The kernel's own semaphores. -/
abbrev osem (k : OwnKind) : SemLoc sig := semAt (.inr k)

theorem ownSemFacts : Pipeline.OwnSemFacts cfg0.spec osem := by decide +kernel

theorem share_eq (c : Dev nD) (w : Fin cfg0.W) : (dats m ρ 0 c).share w = fullShare := by unfold Dat.share; split <;> rfl

theorem cell_inj {k k' : CellKind} {c c' : Dev nD} (h : cell k c = cell k' c') : k = k' ∧ c = c' := by
  have h1 : c = c' := congrArg (fun g : GSem nD τ sig => g.1.1) h
  have h2 : semAt k = semAt k' := congrArg Prod.snd h
  exact ⟨Option.some.inj ((kindOf_semAt k).symm.trans ((congrArg kindOf h2).trans (kindOf_semAt k'))), h1⟩

def kcell (p : Dev nD × CellKind) : GSem nD τ sig := cell p.2 p.1
theorem kcell_injective : Function.Injective kcell := fun p p' h => Prod.ext (cell_inj h).2 (cell_inj h).1
def ringCells : Finset (GSem nD τ sig) := Finset.univ.map ⟨kcell, kcell_injective⟩

/-- The duties of a device's cells: the barrier's two, a transfer's at the sender by round and at the receiver, and a
    copy's into slot `j` by round. -/
abbrev TokKind : Type := Bool ⊕ ((Bool × Fin 8) ⊕ ((Bool × Fin 8) ⊕ (Fin 4 × Fin 5)))
def tokKey : TokKind → CellKind × ℕ × Bool
  | .inl d => (kBar, 0, d)
  | .inr (.inl (d, h)) => (kSend d, h.val, false)
  | .inr (.inr (.inl (d, h))) => (kRecv d h, 0, false)
  | .inr (.inr (.inr (j, i))) => (kLoc j, i.val, false)
def keyTok : CellKind × ℕ × Bool → TokKind
  | (kBar, _, d) => .inl d
  | (kSend d, r, _) => .inr (.inl (d, Fin.ofNat 8 r))
  | (kRecv d h, _, _) => .inr (.inr (.inl (d, h)))
  | (kLoc j, r, _) => .inr (.inr (.inr (j, Fin.ofNat 5 r)))
theorem keyTok_tokKey (t : TokKind) : keyTok (tokKey t) = t := by revert t; decide +kernel
theorem tokKey_injective (t t' : TokKind) (h : tokKey t = tokKey t') : t = t' :=
  (keyTok_tokKey t).symm.trans ((congrArg keyTok h).trans (keyTok_tokKey t'))
def tokOf (p : Dev nD × TokKind) : GSem nD τ sig × ℕ × Bool := (cell (tokKey p.2).1 p.1, (tokKey p.2).2)
theorem tokOf_injective : Function.Injective tokOf := fun p p' h => by
  have h1 := cell_inj (congrArg Prod.fst h)
  exact Prod.ext h1.2 (tokKey_injective _ _ (Prod.ext h1.1 (congrArg (fun x : GSem nD τ sig × ℕ × Bool => x.2) h)))
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of a device's own barrier (`a`: its right neighbour signals, `b`: its left), sends, receive cells (`r` to the
    right, `l` to the left) and copies. -/
def tokens (a b c r l : Dev nD) : sProp 𝕄 :=
  iprop(dutyTok ER (cell kBar a) 0 true ∗ dutyTok ER (cell kBar b) 0 false
    ∗ (bigSep Finset.univ fun h : Fin 8 => dutyTok ER (cell (kRecv true h) r) 0 false)
    ∗ (bigSep Finset.univ fun h : Fin 8 => dutyTok ER (cell (kRecv false h) l) 0 false)
    ∗ (bigSep Finset.univ fun h : Fin 8 => dutyTok ER (cell (kSend true) c) h.val false)
    ∗ (bigSep Finset.univ fun h : Fin 8 => dutyTok ER (cell (kSend false) c) h.val false)
    ∗ bigSep Finset.univ fun j : Fin 4 => bigSep Finset.univ fun i : Fin 5 => dutyTok ER (cell (kLoc j) c) i.val false)
/-- The tokens of device `c`'s own cells, and those of the duties it pays. -/
def toks (c : Dev nD) : sProp 𝕄 := tokens (F := F) c c c c c
def payToks (c : Dev nD) : sProp 𝕄 := tokens (F := F) (prv c) (nxt c) c (nxt c) (prv c)

theorem toks_eq (c : Dev nD) :
    (bigSep Finset.univ fun t : TokKind => (dutyTok ER (tokOf (c, t)).1 (tokOf (c, t)).2.1 (tokOf (c, t)).2.2 : sProp 𝕄)) ⊢ toks (F := F) c := by
  refine (Entails.of_eq (show _ = iprop(((dutyTok ER (cell kBar c) 0 true ∗ dutyTok ER (cell kBar c) 0 false)
    ∗ ((bigSep Finset.univ fun h : Fin 8 => dutyTok ER (cell (kSend true) c) h.val false) ∗ (bigSep Finset.univ fun h : Fin 8 => dutyTok ER (cell (kSend false) c) h.val false))
    ∗ ((bigSep Finset.univ fun h : Fin 8 => dutyTok ER (cell (kRecv true h) c) 0 false) ∗ (bigSep Finset.univ fun h : Fin 8 => dutyTok ER (cell (kRecv false h) c) 0 false))
    ∗ bigSep Finset.univ fun j : Fin 4 => bigSep Finset.univ fun i : Fin 5 => dutyTok ER (cell (kLoc j) c) i.val false : sProp 𝕄)) from by
      rw [bigSep_univ_sum, bigSep_univ_sum, bigSep_univ_sum, bigSep_univ_prod, bigSep_univ_prod, bigSep_univ_prod, bigSep_bool, bigSep_bool, bigSep_bool]; rfl)).trans ?_
  unfold toks tokens
  iintro ⟨⟨H1, H2⟩, ⟨H3, H4⟩, ⟨H5, H6⟩, H7⟩
  isplitl [H1]; · iexact H1
  isplitl [H2]; · iexact H2
  isplitl [H5]; · iexact H5
  isplitl [H6]; · iexact H6
  isplitl [H3]; · iexact H3
  isplitl [H4]; · iexact H4
  iexact H7

def ring : Dev nD ≃ Dev nD := ⟨nxt, prv, up_dn true, dn_up true⟩

/-- The tokens dealt around the ring. -/
theorem toks_around : (bigSep Finset.univ fun c : Dev nD => toks (F := F) c) ⊢ bigSep Finset.univ fun c : Dev nD => payToks (F := F) c := by
  unfold toks payToks tokens
  simp only [bigSep_sep']
  rw [bigSep_univ_equiv ring.symm (fun c : Dev nD => (dutyTok ER (cell kBar c) 0 true : sProp 𝕄)),
    bigSep_univ_equiv ring (fun c : Dev nD => (dutyTok ER (cell kBar c) 0 false : sProp 𝕄)),
    bigSep_univ_equiv ring (fun c : Dev nD => (bigSep Finset.univ fun h : Fin 8 => dutyTok ER (cell (kRecv true h) c) 0 false : sProp 𝕄)),
    bigSep_univ_equiv ring.symm (fun c : Dev nD => (bigSep Finset.univ fun h : Fin 8 => dutyTok ER (cell (kRecv false h) c) 0 false : sProp 𝕄))]
  exact BI.Entails.refl _

/-- What the launch element deals device `c`, -/
def G (c : Dev nD) : sProp 𝕄 :=
  iprop((bigSep Finset.univ fun k : CellKind => roundState ER (ringRd (xAt m)) (cell k c) 0)
    ∗ (bigSep Finset.univ fun k : CellKind => atPos ER (cell k c) 0 ∅ 0)
    ∗ (bigSep Finset.univ fun k : CellKind => reached ER (cell k c) 0) ∗ toks (F := F) c)

/-- what stays with it, -/
def linear (c : Dev nD) : sProp 𝕄 := iprop((bigSep Finset.univ fun k : CellKind => atPos ER (cell k c) 0 ∅ 0) ∗ payToks (F := F) c)
/-- what every device holds, -/
def shared (K : Dev nD × CellKind → ℕ) : sProp 𝕄 :=
  iprop(bigSep Finset.univ (fun p : Dev nD × CellKind => cellInv ER (ringRd (xAt m)) (K p) (cell p.2 p.1))
    ∗ bigSep Finset.univ (fun p : Dev nD × CellKind => (reached ER (cell p.2 p.1) 0 : sProp 𝕄)))
instance shared_persistent (K : Dev nD × CellKind → ℕ) : BI.Persistent (shared m K) := by unfold shared; infer_instance
/-- and what the global step makes of all of it. -/
def G' (c : Dev nD) : sProp 𝕄 := iprop(∃ K, shared m K ∗ linear (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellKind => Φ (cell k c) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod]
    exact bigSep_mono fun c _ => toks_eq c
  iintro HX
  imod (Rounds.fund ER (ringRd (xAt m)) ringCells ringToks) $$ HX with ⟨Hst, Hr, Hat, Htok⟩
  imodintro
  ihave Hst' := (Entails.of_eq (hX fun g => roundState ER (ringRd (xAt m)) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr']; · iexact Hr'
  iexact Htok'

theorem unscopedSems0_eq (c : Dev nD) : (unscopedSems0 c : sProp 𝕄) = semVal (cell kBar c) 0 := by
  unfold unscopedSems0; rw [bigSep_eq_bigSepL_of_eq [SemLoc.reg barS] (by decide) (by decide)]; rfl

abbrev ownAt0 (c : Dev nD) : sProp 𝕄 := Pipeline.ownSems0 (Ix := Unit) (Name := ℕ) (U := UU) (Lvl := ℕ) (Val := Elt F) (τ := τ) osem c

theorem sems0_eq (c : Dev nD) : iprop(ownAt0 (F := F) c ∗ unscopedSems0 c) ⊢ (bigSep Finset.univ fun k : CellKind => semVal (cell k c) 0 : sProp 𝕄) := by
  rw [unscopedSems0_eq, bigSep_univ_sum, show (Finset.univ : Finset Unit) = {()} from rfl, bigSep_singleton]
  exact sep_comm.1

/-- Every cell's invariant opened on one device. -/
theorem core_alloc (c : Dev nD) :
    iprop(ownAt0 (F := F) c ∗ unscopedSems0 c ∗ G m c)
      ⊢ |={Set.univ}=> iprop((bigSep Finset.univ fun k : CellKind => iprop(∃ κ : ℕ, cellInv ER (ringRd (xAt m)) κ (cell k c)))
          ∗ (bigSep Finset.univ fun k : CellKind => (reached ER (cell k c) 0 : sProp 𝕄))
          ∗ (bigSep Finset.univ fun k : CellKind => atPos ER (cell k c) 0 ∅ 0) ∗ toks (F := F) c) := by
  unfold G
  iintro ⟨Hos, Hus, Hst, Hat, Hr, Htok⟩
  ihave Hv := (sems0_eq (F := F) c) $$ [Hos Hus]
  · isplitl [Hos] <;> iassumption
  imod (show iprop((bigSep Finset.univ fun k : CellKind => semVal (cell k c) 0) ∗ bigSep Finset.univ fun k : CellKind => roundState ER (ringRd (xAt m)) (cell k c) 0)
      ⊢ (|={Set.univ}=> bigSep Finset.univ fun k : CellKind => iprop(∃ κ : ℕ, cellInv ER (ringRd (xAt m)) κ (cell k c)) : sProp 𝕄) from by
        rw [← bigSep_sep']
        exact (bigSep_mono fun k _ => (Rounds.body_intro ER (ringRd (xAt m)) (cell k c)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CellKind → ℕ) (c : Dev nD) : iprop(shared m K ∗ linear (F := F) c) ⊢ G' m c := by
  unfold G'; iintro H; iexists K; iexact H

theorem regroup :
    (bigSep Finset.univ fun c : Dev nD => iprop((bigSep Finset.univ fun k : CellKind => iprop(∃ κ : ℕ, cellInv ER (ringRd (xAt m)) κ (cell k c)))
          ∗ (bigSep Finset.univ fun k : CellKind => (reached ER (cell k c) 0 : sProp 𝕄))
          ∗ (bigSep Finset.univ fun k : CellKind => atPos ER (cell k c) 0 ∅ 0) ∗ toks (F := F) c) : sProp 𝕄)
      ⊢ bigSep Finset.univ (G' m) := by
  rw [bigSep_sep', bigSep_sep', bigSep_sep', ← bigSep_univ_prod (fun p : Dev nD × CellKind => iprop(∃ κ : ℕ, cellInv ER (ringRd (xAt m)) κ (cell p.2 p.1))),
    ← bigSep_univ_prod (fun p : Dev nD × CellKind => (reached ER (cell p.2 p.1) 0 : sProp 𝕄))]
  iintro ⟨HI, #HR, Hat, Htok⟩
  ihave HK := (BI.bigSep_exists_pi Finset.univ (fun (p : Dev nD × CellKind) (κ : ℕ) => (cellInv ER (ringRd (xAt m)) κ (cell p.2 p.1) : sProp 𝕄))) $$ HI
  icases HK with ⟨%K, #HI⟩
  ihave Htk := (toks_around (F := F)) $$ Htok
  iapply (bigSep_with (R := shared m K) fun c _ => G'_intro m K c)
  isplitr
  · unfold shared; isplitl; · iexact HI
    iexact HR
  · unfold linear
    rw [bigSep_sep']
    isplitl [Hat]; · iexact Hat
    iexact Htk

/-- The global step: every device's semaphores at once. -/
theorem glob : (bigSep Finset.univ fun c => iprop(ownAt0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit a device starts with -/

theorem cell_at (k k' : CellKind) (c c' : Dev nD) (n : ℕ) :
    (tallyAt (cell k' c') () n : CellTallies nD τ sig Unit) (cell k c) () = if k = k' ∧ c = c' then n else 0 := by
  rw [tallyAt_apply]
  exact if_congr ⟨fun h => cell_inj h.1, fun h => ⟨by rw [h.1, h.2], rfl⟩⟩ rfl rfl

/-- What device `x` owes a receive cell of direction `d` for its transfers in direction `e`, -/
theorem owedDir_recv (e d : Bool) (x c : Dev nD) (h : Fin 8) :
    owedDir e x 0 (cell (kRecv d h) c) () = if e = d ∧ x = up d c then amt h.val else 0 := by
  unfold owedDir
  rw [Finset.sum_apply, Finsupp.finset_sum_apply]
  rw [Finset.sum_eq_single h]
  · rw [if_pos (Nat.zero_le _), cell_at]
    refine if_congr ⟨fun ⟨h1, h2⟩ => ?_, fun ⟨h1, h2⟩ => ?_⟩ rfl rfl
    · have : d = e := congrArg Prod.fst (Sum.inl.inj (Sum.inr.inj (Sum.inr.inj h1)))
      subst this
      exact ⟨rfl, by rw [h2, up_dn]⟩
    · subst h1; subst h2; exact ⟨rfl, (dn_up _ _).symm⟩
  · intro j _ hj
    rw [if_pos (Nat.zero_le _), cell_at]
    exact if_neg fun ⟨h1, _⟩ => hj (congrArg Prod.snd (Sum.inl.inj (Sum.inr.inj (Sum.inr.inj h1)))).symm
  · exact fun hn => absurd (Finset.mem_univ _) hn
/-- and a barrier for them: nothing. -/
theorem owedDir_bar (e : Bool) (x c : Dev nD) : owedDir e x 0 (cell kBar c) () = 0 := by
  unfold owedDir
  rw [Finset.sum_apply, Finsupp.finset_sum_apply]
  refine Finset.sum_eq_zero fun j _ => ?_
  rw [if_pos (Nat.zero_le _), cell_at]
  exact if_neg fun ⟨h1, _⟩ => Sum.inl_ne_inr h1

theorem owed_bar (x c : Dev nD) : owed₀ x (cell kBar c) () = (if x = prv c then 1 else 0) + (if x = nxt c then 1 else 0) := by
  unfold owed₀ owed₁ owed
  simp only [Pi.add_apply, Finsupp.add_apply]
  rw [owedDir_bar, owedDir_bar, cell_at, cell_at, Nat.add_zero, Nat.zero_add]
  refine congrArg₂ (· + ·) (if_congr ⟨fun h => ?_, fun h => ⟨rfl, ?_⟩⟩ rfl rfl) (if_congr ⟨fun h => ?_, fun h => ⟨rfl, ?_⟩⟩ rfl rfl)
  · rw [h.2]; exact (up_dn true x).symm
  · rw [h]; exact (dn_up true c).symm
  · rw [h.2]; exact (up_dn false x).symm
  · rw [h]; exact (dn_up false c).symm

theorem owed_recv (x c : Dev nD) (d : Bool) (h : Fin 8) : owed₀ x (cell (kRecv d h) c) () = if x = up d c then amt h.val else 0 := by
  unfold owed₀ owed₁ owed
  simp only [Pi.add_apply, Finsupp.add_apply]
  have hb (n : Dev nD) : ¬ (kRecv d h = kBar ∧ c = n) := fun h' => Sum.inr_ne_inl h'.1
  rw [owedDir_recv, owedDir_recv, cell_at, cell_at, if_neg (hb _), if_neg (hb _), Nat.add_zero]
  cases d
  · rw [if_neg (fun h' : true = false ∧ _ => Bool.noConfusion h'.1), Nat.zero_add]; exact if_congr (and_iff_right rfl) rfl rfl
  · rw [if_neg (fun h' : false = true ∧ _ => Bool.noConfusion h'.1), Nat.add_zero]; exact if_congr (and_iff_right rfl) rfl rfl

theorem launch_bar (c : Dev nD) :
    tallyOn (cell kBar c) (launchCredit (Pipeline.owing owed₀) 0 (cell kBar c)) = (tallyAt (cell kBar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (d : Bool) (h : Fin 8) :
    tallyOn (cell (kRecv d h) c) (launchCredit (Pipeline.owing owed₀) 0 (cell (kRecv d h) c))
      = (tallyAt (cell (kRecv d h) c) () (amt h.val) : CellTallies nD τ sig Unit) := by
  unfold tallyAt; refine congrArg _ (Finsupp.ext fun u => ?_); cases u
  rw [Pipeline.launchCredit_owing, Finsupp.single_eq_same, Finset.sum_congr rfl fun x _ => owed_recv x c d h,
    Finset.sum_ite_eq' Finset.univ (up d c) fun _ => amt h.val, if_pos (Finset.mem_univ _)]

theorem semAt_injective : Function.Injective semAt := fun k k' h =>
  Option.some.inj ((kindOf_semAt k).symm.trans ((congrArg kindOf h).trans (kindOf_semAt k')))

/-- The two units of its barrier, and of every receive cell what the transfer to it credits. -/
theorem creds (c : Dev nD) :
    (Pipeline.launchCred owed₀ c : sProp 𝕄) ⊢ iprop(cred (tallyAt (cell kBar c) () 2)
      ∗ (bigSep Finset.univ fun h : Fin 8 => cred (tallyAt (cell (kRecv true h) c) () (amt h.val)))
      ∗ bigSep Finset.univ fun h : Fin 8 => cred (tallyAt (cell (kRecv false h) c) () (amt h.val))) := by
  unfold Pipeline.launchCred
  refine (BI.bigSep_subset (Finset.subset_univ (Finset.univ.map ⟨semAt, semAt_injective⟩))).trans ?_
  rw [bigSep_map, bigSep_univ_sum, show (Finset.univ : Finset Unit) = {()} from rfl, bigSep_singleton]
  refine BIClass.sep_mono (Entails.of_eq (congrArg (fun t : CellTallies nD τ sig Unit => (cred t : sProp 𝕄)) (launch_bar c))) ?_
  rw [bigSep_own]
  iintro ⟨-, ⟨H1, H2⟩, -⟩
  isplitl [H1]
  · iapply (Entails.of_eq (bigSep_congr fun h _ => congrArg (fun t : CellTallies nD τ sig Unit => (cred t : sProp 𝕄)) (launch_recv c true h))); iexact H1
  iapply (Entails.of_eq (bigSep_congr fun h _ => congrArg (fun t : CellTallies nD τ sig Unit => (cred t : sProp 𝕄)) (launch_recv c false h))); iexact H2

end Cert.RingProof

end
-- ==== Proof.Run.lean ====
/-
The ring all-gather product — the run of the program on all sixteen devices.
-/
module

public import proofs.«01_k».proof.Proof.Launch
public import Idealize.ShloMosaic.Lib.Pipeline.CollectiveSegs

@[expose] public section

set_option backward.proofsInPublic true
set_option maxRecDepth 8000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from -/

theorem records_intro (K : Dev nD × CellKind → ℕ) : iprop(shared m K ∗ levAts L lv) ⊢ records (xAt m) K := by
  unfold shared records
  iintro ⟨⟨H1, H2⟩, H3⟩
  isplitl [H1]; · iexact H1
  isplitl [H2]; · iexact H2
  iexact H3

theorem recv_start (d : Bool) (c : Dev nD) :
    iprop((bigSep Finset.univ fun h : Fin 8 => atPos ER (cell (kRecv d h) c) 0 ∅ 0)
      ∗ bigSep Finset.univ fun h : Fin 8 => cred (tallyAt (cell (kRecv d h) c) () (amt h.val))) ⊢ recvRes (F := F) d 0 c := by
  unfold recvRes fromTo
  rw [← bigSep_sep']
  refine bigSep_mono fun h _ => ?_
  rw [if_pos (Nat.zero_le _)]
  exact BI.Entails.refl _

theorem send_start (d : Bool) (c : Dev nD) :
    iprop(atPos ER (cell (kSend d) c) 0 ∅ 0 ∗ (bigSep Finset.univ fun h : Fin 8 => dutyTok ER (cell (kSend d) c) h.val false)
      ∗ bigSep Finset.univ fun h : Fin 8 => dutyTok ER (cell (kRecv d h) (dn d c)) 0 false) ⊢ sendStart (F := F) d c := by
  unfold sendStart
  rw [bigSep_sep']

theorem loc_start (K : Dev nD × CellKind → ℕ) (j : Fin 4) (c : Dev nD) :
    records (xAt m) K ⊢ iprop(atPos ER (cell (kLoc j) c) 0 ∅ 0 -∗ (bigSep Finset.univ fun i : Fin 5 => dutyTok ER (cell (kLoc j) c) i.val false)
      -∗ locIdle (F := F) j 0 c) := by
  unfold locIdle locToks fromTo
  iintro HR Hat Ht
  isplitl [Hat]; · iexact Hat
  isplitl [HR]; · iapply (records_reached (xAt m) K (kLoc j) c); iexact HR
  iapply (show (bigSep Finset.univ fun i : Fin 5 => (dutyTok ER (cell (kLoc j) c) i.val false : sProp 𝕄))
    ⊢ bigSep Finset.univ (fun i : Fin 5 => if 0 ≤ i.val then (dutyTok ER (cell (kLoc j) c) i.val false : sProp 𝕄) else iprop(emp)) from by
      refine bigSep_mono fun i _ => ?_
      rw [if_pos (Nat.zero_le _)]
      exact BI.Entails.refl _)
  iexact Ht

/-- The cells of a device one after the other. -/
theorem bigSep_cells (Φ : CellKind → sProp 𝕄) :
    bigSep Finset.univ Φ = iprop(Φ kBar ∗ (Φ (kSend true) ∗ Φ (kSend false))
      ∗ ((bigSep Finset.univ fun h : Fin 8 => Φ (kRecv true h)) ∗ bigSep Finset.univ fun h : Fin 8 => Φ (kRecv false h))
      ∗ Φ (kLoc 0) ∗ Φ (kLoc 1) ∗ Φ (kLoc 2) ∗ Φ (kLoc 3)) := by
  rw [bigSep_univ_sum, bigSep_own, show (Finset.univ : Finset Unit) = {()} from rfl, bigSep_singleton]; rfl
theorem bigSep_slots (Φ : Fin 4 → sProp 𝕄) : bigSep Finset.univ Φ = iprop(Φ 0 ∗ Φ 1 ∗ Φ 2 ∗ Φ 3) := bigSep_univ_eq_bigSepL [(0 : Fin 4), 1, 2, 3] (by decide) (by decide) Φ

theorem ring_start (K : Dev nD × CellKind → ℕ) (c : Dev nD) :
    records (xAt m) K ⊢ iprop(linear (F := F) c -∗ Pipeline.launchCred owed₀ c -∗ barPay (F := F) true (prv c) -∗ barPay (F := F) false (nxt c)
      -∗ ringIn (F := F) c) := by
  unfold linear payToks tokens
  rw [bigSep_cells, bigSep_slots]
  iintro #HR ⟨⟨HaB, ⟨HaR, HaL⟩, ⟨HvR, HvL⟩, Ha0, Ha1, Ha2, Ha3⟩, HtB, HtB', HtvR, HtvL, HtsR, HtsL, Ht⟩ Hcr HpR HpL
  ihave Hc := (creds (F := F) c) $$ Hcr
  icases Hc with ⟨HcB, HcR, HcL⟩
  icases Ht with ⟨Ht0, Ht1, Ht2, Ht3⟩
  unfold ringIn barStart
  isplitl [HtB HtB' HpR HpL HaB HcB]
  · isplitl [HtB]; · iexact HtB
    isplitl [HtB']; · iexact HtB'
    isplitl [HpR]; · iexact HpR
    isplitl [HpL]; · iexact HpL
    isplitl [HaB]; · iexact HaB
    iexact HcB
  isplitl [HaR HtsR HtvR]
  · iapply (send_start true c)
    isplitl [HaR]; · iexact HaR
    isplitl [HtsR]; · iexact HtsR
    iexact HtvR
  isplitl [HaL HtsL HtvL]
  · iapply (send_start false c)
    isplitl [HaL]; · iexact HaL
    isplitl [HtsL]; · iexact HtsL
    iexact HtvL
  isplitl [HvR HcR]
  · iapply (recv_start true c)
    isplitl [HvR]; · iexact HvR
    iexact HcR
  isplitl [HvL HcL]
  · iapply (recv_start false c)
    isplitl [HvL]; · iexact HvL
    iexact HcL
  isplitl [Ha0 Ht0]; · iapply (loc_start m K 0 c) $$ HR Ha0 Ht0
  isplitl [Ha1 Ht1]; · iapply (loc_start m K 1 c) $$ HR Ha1 Ht1
  isplitl [Ha2 Ht2]; · iapply (loc_start m K 2 c) $$ HR Ha2 Ht2
  iapply (loc_start m K 3 c) $$ HR Ha3 Ht3

/-! ## The theorem's side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = Pipeline.unscopedRest cfg0.spec c (fun b => m ((c : Thread nD τ).loc b)) from Pipeline.unscopedRestP_none _ _ _, unscopedRest0_eq]
  unfold G'
  iintro ⟨Hcomm, Hlev, Hcr, -, ⟨%K, HG, Hlin⟩⟩
  ihave Hp := (comm_split (F := F) c _) $$ Hcomm
  icases Hp with ⟨HpR, HpL⟩
  ihave HR := (records_intro m K) $$ [HG Hlev]
  · isplitl [HG] <;> iassumption
  icases HR with #HR
  imodintro
  isplitl
  · unfold start
    isplitr
    · iexists K; iexact HR
    iapply (ring_start m K c) $$ HR Hlin Hcr HpR HpL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scratch closed
  iintro ⟨⟨HB, Ho⟩, Hr⟩
  isplitl [HB]; · iexact HB
  isplitl [Ho]
  · iapply (show (bigSep Finset.univ fun k : OwnKind => (semVal (cell (.inr k) c) 0 : sProp 𝕄)) ⊢ ownAt0 (F := F) c from BI.Entails.refl _)
    iexact Ho
  iexact Hr

theorem mayWait_stage (c : Dev nD) (q : DmaSem sig) (hq : kindOf (.dma q) = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨d, h, rfl⟩ | rfl | rfl <;> exact Finset.mem_singleton_self _)
      (fun p hp => by rw [Finset.mem_singleton.mp hp]; dsimp only [lv]; rw [hq])
      (fun g u hg => by
        cases u
        rcases owed₀_pos hg with ⟨d, h, rfl⟩ | rfl | rfl
        · rw [lv_cell]; show 0 < 2 + h.val; omega
        · rw [lv_cell]; exact Nat.one_pos
        · rw [lv_cell]; exact Nat.one_pos)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every device's arrays at their final contents. -/
def QC : PUnit × MemSt nD τ sig (Elt F) → Prop := fun r =>
  ∀ c : Dev nD, ∀ w : Fin cfg0.W, r.2.mem ((cfg0.win w).arr.view.loc (c : Thread nD τ)) = finalA m ρ c w

/-- Over any float values, from any memory with zero counters: every weakly fair execution of the program on the sixteen
    devices terminates, with every device's arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof

end
-- ==== Proof.Value.lean ====
/-
The ring all-gather product — what the launch leaves: the arguments as they were, and the result array holding what
each device computes from its argument buffers.
-/
module

public import proofs.«01_k».proof.Proof.Run
public import Idealize.ShloMosaic.Lib.Pipeline.Value

@[expose] public section

set_option backward.proofsInPublic true

noncomputable section

namespace Cert.RingProof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Each window takes its whole array: the block read is the argument buffer itself. -/
theorem xAt_eq (c : Dev nD) : xAt m c = m ((c : Thread nD τ).loc main_arg0) :=
  Memref.read_access_unit_zero (Elt F) main_arg0 (funext fun a => by fin_cases a <;> rfl) _ _

theorem wAt_eq (c : Dev nD) : wAt m c = m ((c : Thread nD τ).loc main_arg1) :=
  Memref.read_access_unit_zero (Elt F) main_arg1 (funext fun a => by fin_cases a <;> rfl) _ _

/-- The argument arrays end as they were; -/
theorem final_arg0 (c : Dev nD) : finalA m ρ c (0 : Fin 3) = m ((c : Thread nD τ).loc main_arg0) := (dats m ρ 0 c).arrAt_in (0 : Fin 3) rfl _
theorem final_arg1 (c : Dev nD) : finalA m ρ c (1 : Fin 3) = m ((c : Thread nD τ).loc main_arg1) := (dats m ρ 0 c).arrAt_in (1 : Fin 3) rfl _

/-- the result array ends at what the device computes. -/
theorem final_out (c : Dev nD) :
    finalA m ρ c (2 : Fin 3) = outC (fun o => m ((o : Thread nD τ).loc main_arg0)) (fun o => m ((o : Thread nD τ).loc main_arg1)) c := by
  have hx : xAt m = fun o : Dev nD => m ((o : Thread nD τ).loc main_arg0) := funext fun o => xAt_eq m o
  have hw : wAt m = fun o : Dev nD => m ((o : Thread nD τ).loc main_arg1) := funext fun o => wAt_eq m o
  rw [← hx, ← hw]
  refine ((dats m ρ 0 c).arrAt_succ (2 : Fin 3) t0_0).trans ((if_pos (flush0_2 t0_0)).trans ?_)
  exact Memref.write_access_unit_zero_univ (Elt F) main_v1_0 (funext fun a => by fin_cases a <;> rfl) _ _ _

/-- What the launch leaves in the arrays the claims name, and every counter at zero. -/
theorem kernel_run : θ_run defs (onTc (τ := τ) (main (F := F))) ⟨m, fun _ => 0, ρ⟩ (fun r => (∀ c : Dev nD,
      r.2.mem ((c.tc : Thread nD τ).loc main_v1_0) = outC (fun o => m ((o : Thread nD τ).loc main_arg0)) (fun o => m ((o : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (final_out m ρ c),
    (h.1 c (0 : Fin 3)).trans (final_arg0 m ρ c), (h.1 c (1 : Fin 3)).trans (final_arg1 m ρ c)⟩, h.2⟩) (run_main m ρ)

/-- So the arguments end unchanged and every counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (kernel_run m ρ)

end Cert.RingProof

end
-- ==== Proof.Math.lean ====
/-
The ring all-gather product — the mathematics at extended reals: every element of the kernel's result and of the two
references' is the gated inner product of a row of `x` and a column of `w_mat`, once the clip is known to do nothing.
-/
module

public import proofs.«01_k».proof.Proof.Product
public import proofs.«01_k».proof.Proof.Gen.ReferenceIdeal
public import proofs.«01_k».proof.Proof.Gen.UnclippedIdeal
public import proofs.«01_k».proof.Proof.Gen.On_inside_clip
public import Idealize.ShloMosaic.Lib.Pointwise
public import Idealize.ShloMosaic.Lib.Layout

@[expose] public section

set_option backward.proofsInPublic true

noncomputable section

namespace Cert.RingProof

open Cert.KernelIdeal Cert.KernelIdeal.Gen

open Idealize.ShloMosaic

/-! ## One element -/

/-- The gate: `y · 1/(1 + e⁻ʸ)`. -/
def gate (y : EReal) : EReal := y * Ideal.logistic y

/-- An exponential is never negative. -/
theorem exp_nonneg (y : EReal) : 0 ≤ Ideal.exp y := by
  induction y using EReal.rec with
  | bot => exact le_refl _
  | top => exact le_top
  | coe r => exact EReal.coe_nonneg.mpr (Real.exp_pos r).le

/-- The gate is the quotient `y / (1 + e⁻ʸ)`, infinities included: the divisor is at least one. -/
theorem gate_eq (y : EReal) : gate y = Ideal.div y (1 + Ideal.exp (-y)) := by
  have h : (1 + Ideal.exp (-y)) ≠ 0 :=
    ne_of_gt (lt_of_lt_of_le zero_lt_one (le_add_of_nonneg_right (exp_nonneg _)))
  unfold gate Ideal.logistic Ideal.div
  rw [if_neg h, if_neg h, one_mul]

/-! ## The kernel's elements -/

variable (X : Dev nD → Vec Ideal S256x4096 .f32) (Wt : Dev nD → Vec Ideal S4096x512 .f32)

/-- The inner product of row `r` of device `o`'s block of `x` and column `j` of device `c`'s block of the weights. -/
def inner (o c : Dev nD) (r : Fin 256) (j : Fin 512) : EReal :=
  ∑ k : Fin 4096, X o (ix2 r k) * Wt c (ix2 k j)

theorem wb_apply (c : Dev nD) (i : S4096x512.Idx) : wb Wt c i = Wt c i := by pointwise [wb, k0_pay1]

theorem gemm_apply (o c : Dev nD) (r : Fin 256) (j : Fin 512) :
    gemm (X o) (wb Wt c) (ValueIdx.ix2 (n0 := 256) (n1 := 512) r j) = gate (inner X Wt o c r j) := by
  pointwise [gemm, gate, inner, wb, k0_pay1]

/-- The row of a block that row `s` of its half `d` is. -/
def rowIn (d : Bool) (s : Fin 128) : Fin 256 := ⟨s.val + hrow d, by have := s.isLt; cases d <;> simp [hrow] <;> omega⟩

theorem gemmHalf_apply (d : Bool) (o c : Dev nD) (s : Fin 128) (j : Fin 512) :
    gemmHalf (xHalf X d o) (wb Wt c) (ValueIdx.ix2 (n0 := 128) (n1 := 512) s j) = gate (inner X Wt o c (rowIn d s) j) := by
  pointwise [gemmHalf, gate, inner, wb, k0_pay1, xHalf, rowIn]
  rfl

/-- What device `c` computes, at an index: in either case the gated inner product. -/
theorem outC_apply (c : Dev nD) (i : S4096x512.Idx) :
    outC X Wt c i = gate (inner X Wt (rowOwner i) c ⟨(i 0).val % 256, Nat.mod_lt _ (by decide)⟩ (i 1)) := by
  unfold outC
  split
  · refine (gemmHalf_apply X Wt _ _ c _ (i 1)).trans ?_
    refine congrArg (fun r => gate (inner X Wt (rowOwner i) c r (i 1))) (Fin.ext ?_)
    show (i 0).val % 128 + hrow (decide ((i 0).val % 256 < 128)) = (i 0).val % 256
    by_cases h : (i 0).val % 256 < 128
    · rw [decide_eq_true h]; show (i 0).val % 128 + 0 = _; omega
    · rw [decide_eq_false h]; show (i 0).val % 128 + 128 = _; omega
  · exact gemm_apply X Wt _ c _ _

/-! ## The references' elements -/

/-- Two tests whose conjunction is one both hold. -/
theorem and_bits {p q : Prop} [Decidable p] [Decidable q]
    (h : IntOp.andi (BitVec.ofBool (decide p)) (BitVec.ofBool (decide q)) = 1#1) : p ∧ q := by
  by_cases hp : p <;> by_cases hq : q <;> simp_all [IntOp.andi]

variable (A : FVec Ideal Cert.ReferenceIdeal.S4096x4096 .f32) (B : FVec Ideal Cert.ReferenceIdeal.S4096x8192 .f32)

/-- The product's element. -/
def prod (i : Cert.ReferenceIdeal.S4096x8192.Idx) : EReal :=
  ∑ k : Fin 4096, A (ix2 (i 0) k) * B (ix2 k (i 1))

/-- What the reference computes of the whole arrays; -/
def refOut : FVec Ideal Cert.ReferenceIdeal.S4096x8192 .f32 :=
  open Cert.ReferenceIdeal Cert.ReferenceIdeal.Facts₀ in
  Host.divf (Host.dotGeneral dot_S4096x4096_S4096x8192_S4096x8192_1_0_0_1_n_n none A B) (addf (broadcastInDim S4096x8192 ![] bcast_S_S4096x8192 (constant Cert.ReferenceIdeal.S_ .f32 0x3F800000#32)) (Host.exp (Host.negf (minimumf (broadcastInDim S4096x8192 ![] bcast_S_S4096x8192 (id (constant Cert.ReferenceIdeal.S_ .f32 0x42700000#32))) (maximumf (broadcastInDim S4096x8192 ![] bcast_S_S4096x8192 (id (constant Cert.ReferenceIdeal.S_ .f32 0xC2700000#32))) (Host.dotGeneral dot_S4096x4096_S4096x8192_S4096x8192_1_0_0_1_n_n none A B))))))

/-- and the same without the clip. -/
def refOutU : FVec Ideal Cert.UnclippedIdeal.S4096x8192 .f32 :=
  open Cert.UnclippedIdeal Cert.UnclippedIdeal.Facts₀ in
  Host.divf (Host.dotGeneral dot_S4096x4096_S4096x8192_S4096x8192_1_0_0_1_n_n none A B) (addf (broadcastInDim S4096x8192 ![] bcast_S_S4096x8192 (constant Cert.UnclippedIdeal.S_ .f32 0x3F800000#32)) (Host.exp (Host.negf (Host.dotGeneral dot_S4096x4096_S4096x8192_S4096x8192_1_0_0_1_n_n none A B))))

theorem refOutU_apply (i : Cert.ReferenceIdeal.S4096x8192.Idx) : refOutU A B i = gate (prod A B i) := by
  rw [gate_eq]
  pointwise [refOutU, prod]

/-- Where the product is inside the clip, the clip does nothing. -/
theorem refOut_apply (i : Cert.ReferenceIdeal.S4096x8192.Idx) (hi : Cert.On_inside_clip.fn (F := Ideal) A B i = 1#1) :
    refOut A B i = gate (prod A B i) := by
  rw [gate_eq]
  pointwise [refOut, prod]
  pointwise [Cert.On_inside_clip.fn] at hi
  obtain ⟨h1, h2⟩ := and_bits hi
  simp only [id_eq]
  pointwise
  rw [max_eq_right h1, min_eq_right h2]

/-! ## The blocks -/

/-- When every device holds its blocks of the two arrays, its result is its block of the gated product. -/
theorem outC_block (hX : ∀ o : Dev nD, X o = Layout.block ⟨2, ![256, 4096]⟩ ⟨2, ![4096, 4096]⟩ 0 16 o A)
    (hW : ∀ o : Dev nD, Wt o = Layout.block ⟨2, ![4096, 512]⟩ ⟨2, ![4096, 8192]⟩ 1 16 o B) (c : Dev nD) :
    outC X Wt c = Layout.block ⟨2, ![4096, 512]⟩ ⟨2, ![4096, 8192]⟩ 1 16 c (fun i => gate (prod A B i)) := by
  funext i
  rw [outC_apply, Layout.block_apply]
  refine congrArg gate (Finset.sum_congr rfl fun k _ => ?_)
  rw [hX, hW, Layout.block_apply, Layout.block_apply]
  refine congrArg₂ (· * ·) (congrArg A ?_) (congrArg B ?_)
  · funext a; fin_cases a
    · refine Fin.ext ?_
      show (i 0).val / 256 * 256 + (i 0).val % 256 = (i 0).val
      omega
    · rfl
  · funext a; fin_cases a <;> rfl

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_inside_clip
public import proofs.«01_k».proof.Proof.Value
public import proofs.«01_k».proof.Proof.Math
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two printings of the kernel have one text, so one body table; -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun x => ?_)
  match ℓ, x with
  | ⟨0, _⟩, (t, s) => rfl

theorem defs_eq {F : FTy → Type} [FloatOps F] : Cert.Kernel.defs (F := F) = Cert.KernelIdeal.defs (F := F) :=
  congrArg (Pipeline.defs Cert.KernelIdeal.pcfgs) bodies_eq

/-- and the run proved at any float values is the printed kernel's at bit patterns. -/
theorem frame_kernel : Cert.quiescent_Kernel := fun m ρ _ => by
  have h := Cert.RingProof.kernel_frame (F := Bits) m ρ
  rw [← defs_eq] at h
  exact h

theorem frame_kernelIdeal : Cert.quiescent_KernelIdeal := fun m ρ _ => Cert.RingProof.kernel_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- On every element whose product the clip leaves alone, device `c`'s result is its block of the reference's. -/
theorem algebraic_clipped : Cert.algebraic_KernelIdeal_ReferenceIdeal_on_inside_clip := by
  intro m ρ m' ρ' _ hagree
  refine ⟨Cert.RingProof.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun r h c => ⟨fun i hi => ?_, (h.1 c).2⟩) (Cert.RingProof.kernel_run (F := Ideal) m ρ)
    refine (congrFun ((h.1 c).1.trans (Cert.RingProof.outC_block _ _ _ _ (fun o => (hagree o).1) (fun o => (hagree o).2) c)) i).trans ?_
    exact (Cert.RingProof.refOut_apply _ _ _ hi).symm
  · exact (θ_run Cert.ReferenceIdeal.defs _ _).mono (fun _ h => ⟨fun i _ => congrFun (h 0).1 i, (h 0).2⟩)
      (Cert.ReferenceIdeal.Value.run (F := Ideal) m' ρ')

/-- Without the clip, device `c`'s result is its block of the reference's, whatever the arguments. -/
theorem algebraic_unclipped : Cert.algebraic_KernelIdeal_UnclippedIdeal := by
  intro m ρ m' ρ' _ hagree
  refine ⟨Cert.RingProof.refOutU (m' (((0 : Dev Cert.UnclippedIdeal.nD).tc : Thread _ Cert.UnclippedIdeal.τ).loc Cert.UnclippedIdeal.main_arg0))
    (m' (((0 : Dev Cert.UnclippedIdeal.nD).tc : Thread _ Cert.UnclippedIdeal.τ).loc Cert.UnclippedIdeal.main_arg1)), ?_, ?_⟩
  · refine (θ_run Cert.KernelIdeal.defs _ _).mono (fun r h c => ⟨?_, (h.1 c).2⟩) (Cert.RingProof.kernel_run (F := Ideal) m ρ)
    refine (h.1 c).1.trans ((Cert.RingProof.outC_block _ _ _ _ (fun o => (hagree o).1) (fun o => (hagree o).2) c).trans ?_)
    funext i
    exact (Cert.RingProof.refOutU_apply _ _ _).symm
  · exact (θ_run Cert.UnclippedIdeal.defs _ _).mono (fun _ h => h 0) (Cert.UnclippedIdeal.Value.run (F := Ideal) m' ρ')

theorem claim : Cert.Claim := ⟨Cert.Kernel.Gen.facts, Cert.KernelIdeal.Gen.facts, Cert.ReferenceIdeal.Gen.facts, Cert.UnclippedIdeal.Gen.facts, Cert.On_inside_clip.Gen.facts,
  frame_kernel, frame_kernelIdeal, frame_reference, frame_unclipped, trivial, algebraic_clipped, algebraic_unclipped⟩

end Cert.Proof

end
